-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unmasked_with_finite_heads [hPre_unmasked_with_finite_heads : Cert.Pre_unmasked_with_finite_heads.Facts] (m : (ℓ : Loc Cert.KernelIdeal.nD Cert.KernelIdeal.τ Cert.KernelIdeal.sig) → Buf (Elt Ideal) ℓ) : Prop :=
  ∀ c : Dev Cert.KernelIdeal.nD,
    (Cert.Pre_unmasked_with_finite_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_unmasked_with_finite_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_unmasked_with_finite_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_unmasked_with_finite_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_unmasked_with_finite_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_unmasked_with_finite_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unmasked_with_finite_heads [hPre_unmasked_with_finite_heads : Cert.Pre_unmasked_with_finite_heads.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unmasked_with_finite_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_unmasked_with_finite_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_unmasked_with_finite_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_unmasked_with_finite_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_unmasked_with_finite_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_unmasked_with_finite_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_unmasked_with_finite_heads [hKernelIdeal : Cert.KernelIdeal.Facts] [hPre_unmasked_with_finite_heads : Cert.Pre_unmasked_with_finite_heads.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unmasked_with_finite_heads m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_unmasked_with_finite_heads [hReferenceIdeal : Cert.ReferenceIdeal.Facts] [hPre_unmasked_with_finite_heads : Cert.Pre_unmasked_with_finite_heads.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unmasked_with_finite_heads m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_unmasked_with_finite_heads [hKernelIdeal : Cert.KernelIdeal.Facts] [hReferenceIdeal : Cert.ReferenceIdeal.Facts] [hPre_unmasked_with_finite_heads : Cert.Pre_unmasked_with_finite_heads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unmasked_with_finite_heads m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_unmasked_with_finite_heads : Cert.Pre_unmasked_with_finite_heads.Facts),
    quiescent_Kernel (hKernel := hKernel)
    ∧ quiescent_KernelIdeal (hKernelIdeal := hKernelIdeal)
    ∧ quiescent_KernelIdeal_pre_unmasked_with_finite_heads (hKernelIdeal := hKernelIdeal) (hPre_unmasked_with_finite_heads := hPre_unmasked_with_finite_heads)
    ∧ quiescent_ReferenceIdeal (hReferenceIdeal := hReferenceIdeal)
    ∧ quiescent_ReferenceIdeal_pre_unmasked_with_finite_heads (hReferenceIdeal := hReferenceIdeal) (hPre_unmasked_with_finite_heads := hPre_unmasked_with_finite_heads)
    ∧ preserves_Kernel_KernelIdeal
    ∧ algebraic_KernelIdeal_ReferenceIdeal_pre_unmasked_with_finite_heads (hKernelIdeal := hKernelIdeal) (hReferenceIdeal := hReferenceIdeal) (hPre_unmasked_with_finite_heads := hPre_unmasked_with_finite_heads)
-- ==== Pre_unmasked_with_finite_heads.lean ====
abbrev S16x4096x2048 : Shape := ⟨3, ![16, 4096, 2048]⟩
abbrev S16x4096x1 : Shape := ⟨3, ![16, 4096, 1]⟩
abbrev S16x4096x1024 : Shape := ⟨3, ![16, 4096, 1024]⟩
abbrev S2048x64 : Shape := ⟨2, ![2048, 64]⟩
abbrev S64 : Shape := ⟨1, ![64]⟩
abbrev S64x1 : Shape := ⟨2, ![64, 1]⟩
abbrev S1 : Shape := ⟨1, ![1]⟩
abbrev S1024x64 : Shape := ⟨2, ![1024, 64]⟩
abbrev S800x128 : Shape := ⟨2, ![800, 128]⟩
abbrev S128 : Shape := ⟨1, ![128]⟩
abbrev S128x64 : Shape := ⟨2, ![128, 64]⟩
abbrev S_ : Shape := ⟨0, ![]⟩

class Facts : Prop where
  reducesTo_S16x4096x1_S_d0_1_2 : S16x4096x1.ReducesTo [0, 1, 2] S_
  h_S_ : 0 < S_.numel
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg11 : FVec F S1 .f32) (main_v1 : IVec S_ 1) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 :=
  let main_v16 : FVec F S1 .f32 := Host.absf main_arg11
  let main_cst_6 : FVec F S_ .f32 := constant S_ .f32 0x7F800000#32
  let main_v17 : FVec F S1 .f32 := broadcastInDim S1 ![] bcast_S_S1 main_cst_6
  let main_v18 : IVec S1 1 := cmpf .olt main_v16 main_v17
  let main_c_7 : IVec S_ 1 := constantI S_ 1 1#1
  let main_v19 : IVec S_ 1 := (fun x v => Host.reduce IntOp.andi x v reducesTo_S1_S_d0 h_S_) main_v18 main_c_7
  (main_v1, main_v3, main_v7, main_v11, main_v15, main_v19)

def fn {F : FTy → Type} [FloatOps F] (main_arg0 : FVec F S16x4096x2048 .f32) (main_arg1 : IVec S16x4096x1 1) (main_arg2 : FVec F S16x4096x1024 .f32) (main_arg3 : IVec S16x4096x1 1) (main_arg4 : FVec F S2048x64 .f32) (main_arg5 : FVec F S64 .f32) (main_arg6 : FVec F S64x1 .f32) (main_arg7 : FVec F S1 .f32) (main_arg8 : FVec F S1024x64 .f32) (main_arg9 : FVec F S64 .f32) (main_arg10 : FVec F S64x1 .f32) (main_arg11 : FVec F S1 .f32) (main_arg12 : FVec F S800x128 .f32) (main_arg13 : FVec F S128 .f32) (main_arg14 : FVec F S128x64 .f32) (main_arg15 : FVec F S64 .f32) (main_arg16 : FVec F S64x1 .f32) (main_arg17 : FVec F S1 .f32) : IVec S_ 1 × IVec S_ 1 × IVec S_ 1 × IVec S_ 1 × IVec S_ 1 × IVec S_ 1 :=
  let main_v0 : IVec S16x4096x1 1 := noti main_arg1
  let main_c : IVec S_ 1 := constantI S_ 1 1#1
  let main_v1 : IVec S_ 1 := (fun x v => Host.reduce IntOp.andi x v reducesTo_S16x4096x1_S_d0_1_2 h_S_) main_v0 main_c
  let main_v2 : IVec S16x4096x1 1 := noti main_arg3
  let main_c_0 : IVec S_ 1 := constantI S_ 1 1#1
  let main_v3 : IVec S_ 1 := (fun x v => Host.reduce IntOp.andi x v reducesTo_S16x4096x1_S_d0_1_2 h_S_) main_v2 main_c_0
  let main_v4 : FVec F S64x1 .f32 := Host.absf main_arg6
  let main_cst : FVec F S_ .f32 := constant S_ .f32 0x7F800000#32
  let main_v5 : FVec F S64x1 .f32 := broadcastInDim S64x1 ![] bcast_S_S64x1 main_cst
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : FVec F S1 .f32 := Host.absf main_arg7
  let main_cst_2 : FVec F S_ .f32 := constant S_ .f32 0x7F800000#32
  let main_v9 : FVec F S1 .f32 := broadcastInDim S1 ![] bcast_S_S1 main_cst_2
  let main_v10 : IVec S1 1 := cmpf .olt main_v8 main_v9
  let main_c_3 : IVec S_ 1 := constantI S_ 1 1#1
  let main_v11 : IVec S_ 1 := (fun x v => Host.reduce IntOp.andi x v reducesTo_S1_S_d0 h_S_) main_v10 main_c_3
  let main_v12 : FVec F S64x1 .f32 := Host.absf main_arg10
  let main_cst_4 : FVec F S_ .f32 := constant S_ .f32 0x7F800000#32
  let main_v13 : FVec F S64x1 .f32 := broadcastInDim S64x1 ![] bcast_S_S64x1 main_cst_4
  let main_v14 : IVec S64x1 1 := cmpf .olt main_v12 main_v13
  let main_c_5 : IVec S_ 1 := constantI S_ 1 1#1
  let main_v15 : IVec S_ 1 := (fun x v => Host.reduce IntOp.andi x v reducesTo_S64x1_S_d0_1 h_S_) main_v14 main_c_5
  fn_part1 (F := F) main_arg11 main_v1 main_v3 main_v7 main_v11 main_v15
-- ==== Kernel.lean ====
abbrev S16x4096x2048 : Shape := ⟨3, ![16, 4096, 2048]⟩
abbrev S16x4096x1 : Shape := ⟨3, ![16, 4096, 1]⟩
abbrev S16x4096x1024 : Shape := ⟨3, ![16, 4096, 1024]⟩
abbrev S2048x64 : Shape := ⟨2, ![2048, 64]⟩
abbrev S64 : Shape := ⟨1, ![64]⟩
abbrev S64x1 : Shape := ⟨2, ![64, 1]⟩
abbrev S1 : Shape := ⟨1, ![1]⟩
abbrev S1024x64 : Shape := ⟨2, ![1024, 64]⟩
abbrev S800x128 : Shape := ⟨2, ![800, 128]⟩
abbrev S128 : Shape := ⟨1, ![128]⟩
abbrev S128x64 : Shape := ⟨2, ![128, 64]⟩
abbrev S1x64 : Shape := ⟨2, ![1, 64]⟩
abbrev S1x1 : Shape := ⟨2, ![1, 1]⟩
abbrev S64x1x1024 : Shape := ⟨3, ![64, 1, 1024]⟩
abbrev S1x1024x2048 : Shape := ⟨3, ![1, 1024, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1 : Shape := ⟨2, ![1024, 1]⟩
abbrev S1024 : Shape := ⟨1, ![1024]⟩
abbrev S1024x1024 : Shape := ⟨2, ![1024, 1024]⟩
abbrev S16x4096 : Shape := ⟨2, ![16, 4096]⟩
abbrev S1x128 : Shape := ⟨2, ![1, 128]⟩
abbrev S16x1 : Shape := ⟨2, ![16, 1]⟩
abbrev S16x800 : Shape := ⟨2, ![16, 800]⟩
abbrev S64x4096 : Shape := ⟨2, ![64, 4096]⟩
abbrev S64x128 : Shape := ⟨2, ![64, 128]⟩
abbrev S64x100 : Shape := ⟨2, ![64, 100]⟩
abbrev S16x100 : Shape := ⟨2, ![16, 100]⟩
abbrev S16x200 : Shape := ⟨2, ![16, 200]⟩
abbrev S16x128 : Shape := ⟨2, ![16, 128]⟩
abbrev S16x64 : Shape := ⟨2, ![16, 64]⟩
abbrev S16x800x1 : Shape := ⟨3, ![16, 800, 1]⟩

abbrev nBuf : Space → Nat
  | .hbm => 32
  | .vmem => 26
  | .smem => 0
  | _ => 0

abbrev bufTy : (tb : Table) → Fin (tcTables nBuf tb) → BufTy
  | .hbm, ⟨0, _⟩ => ⟨S16x4096x2048, .f32⟩
  | .hbm, ⟨1, _⟩ => ⟨S16x4096x1, .i1⟩
  | .hbm, ⟨2, _⟩ => ⟨S16x4096x1024, .f32⟩
  | .hbm, ⟨3, _⟩ => ⟨S16x4096x1, .i1⟩
  | .hbm, ⟨4, _⟩ => ⟨S2048x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1024x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S800x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S1x64, .f32⟩
  | .hbm, ⟨19, _⟩ => ⟨S1x1, .f32⟩
  | .hbm, ⟨20, _⟩ => ⟨S1x64, .f32⟩
  | .hbm, ⟨21, _⟩ => ⟨S1x1, .f32⟩
  | .hbm, ⟨22, _⟩ => ⟨S64x1x1024, .f32⟩
  | .hbm, ⟨23, _⟩ => ⟨S64x1x1024, .f32⟩
  | .hbm, ⟨24, _⟩ => ⟨S16x4096, .f32⟩
  | .hbm, ⟨25, _⟩ => ⟨S16x4096, .f32⟩
  | .hbm, ⟨26, _⟩ => ⟨S1x128, .f32⟩
  | .hbm, ⟨27, _⟩ => ⟨S1x64, .f32⟩
  | .hbm, ⟨28, _⟩ => ⟨S1x1, .f32⟩
  | .hbm, ⟨29, _⟩ => ⟨S16x1, .f32⟩
  | .hbm, ⟨30, _⟩ => ⟨S16x800, .f32⟩
  | .hbm, ⟨31, _⟩ => ⟨S16x800x1, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x1024, .f32⟩
  | .local _ .vmem, ⟨3, _⟩ => ⟨S1x1024x1024, .f32⟩
  | .local _ .vmem, ⟨4, _⟩ => ⟨S2048x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S1024x64, .f32⟩
  | .local _ .vmem, ⟨9, _⟩ => ⟨S1x64, .f32⟩
  | .local _ .vmem, ⟨10, _⟩ => ⟨S64x1, .f32⟩
  | .local _ .vmem, ⟨11, _⟩ => ⟨S1x1, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S16x4096, .f32⟩
  | .local _ .vmem, ⟨17, _⟩ => ⟨S16x4096, .f32⟩
  | .local _ .vmem, ⟨18, _⟩ => ⟨S800x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S64x1, .f32⟩
  | .local _ .vmem, ⟨23, _⟩ => ⟨S1x1, .f32⟩
  | .local _ .vmem, ⟨24, _⟩ => ⟨S16x1, .f32⟩
  | .local _ .vmem, ⟨25, _⟩ => ⟨S16x800, .f32⟩
  | _, _ => ⟨S16x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := .none

@[reducible] def k1_t1_loop : Scf.Loop 32 :=
  let c0_i32 : BitVec 32 := 0#32
  let c100_i32 : BitVec 32 := 100#32
  let v13 : BitVec 32 := Scalar.addi c0_i32 c100_i32
  let c1_i32 : BitVec 32 := 1#32
  ⟨c0_i32, v13, c1_i32⟩
abbrev stage1_0 : Fin 1 → Memref sig .tc .vmem S16x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S800x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S16x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S16x800 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
-- ==== ReferenceIdeal.lean ====
abbrev S16x4096x2048 : Shape := ⟨3, ![16, 4096, 2048]⟩
abbrev S16x4096x1 : Shape := ⟨3, ![16, 4096, 1]⟩
abbrev S16x4096x1024 : Shape := ⟨3, ![16, 4096, 1024]⟩
abbrev S2048x64 : Shape := ⟨2, ![2048, 64]⟩
abbrev S64 : Shape := ⟨1, ![64]⟩
abbrev S64x1 : Shape := ⟨2, ![64, 1]⟩
abbrev S1 : Shape := ⟨1, ![1]⟩
abbrev S1024x64 : Shape := ⟨2, ![1024, 64]⟩
abbrev S800x128 : Shape := ⟨2, ![800, 128]⟩
abbrev S128 : Shape := ⟨1, ![128]⟩
abbrev S128x64 : Shape := ⟨2, ![128, 64]⟩
abbrev S16x4096x64 : Shape := ⟨3, ![16, 4096, 64]⟩
abbrev S1x1x64 : Shape := ⟨3, ![1, 1, 64]⟩
abbrev S_ : Shape := ⟨0, ![]⟩
abbrev S1x1x1 : Shape := ⟨3, ![1, 1, 1]⟩
abbrev S16x1x4096 : Shape := ⟨3, ![16, 1, 4096]⟩
abbrev S16x1x100 : Shape := ⟨3, ![16, 1, 100]⟩
abbrev S16x100x1 : Shape := ⟨3, ![16, 100, 1]⟩
abbrev S16x200x1 : Shape := ⟨3, ![16, 200, 1]⟩
abbrev S16x200 : Shape := ⟨2, ![16, 200]⟩
abbrev S16x800x1 : Shape := ⟨3, ![16, 800, 1]⟩
abbrev S16x1x800 : Shape := ⟨3, ![16, 1, 800]⟩
abbrev S16x1x128 : Shape := ⟨3, ![16, 1, 128]⟩
abbrev S1x1x128 : Shape := ⟨3, ![1, 1, 128]⟩
abbrev S16x1x64 : Shape := ⟨3, ![16, 1, 64]⟩
abbrev S16x1x1 : Shape := ⟨3, ![16, 1, 1]⟩
abbrev S16x1 : Shape := ⟨2, ![16, 1]⟩

abbrev nBuf : Space → Nat
  | .hbm => 179
  | .vmem => 0
  | .smem => 0
  | _ => 0

abbrev hbmTy0_0 (i : Nat) : BufTy := match i % 128 with
  | 0 => ⟨S16x4096x2048, .f32⟩
  | 1 => ⟨S16x4096x1, .i1⟩
  | 2 => ⟨S16x4096x1024, .f32⟩
  | 3 => ⟨S16x4096x1, .i1⟩
  | 4 => ⟨S2048x64, .f32⟩
  | 5 => ⟨S64, .f32⟩
  | 6 => ⟨S64x1, .f32⟩
  | 7 => ⟨S1, .f32⟩
  | 8 => ⟨S1024x64, .f32⟩
  | 9 => ⟨S64, .f32⟩
  | 10 => ⟨S64x1, .f32⟩
  | 11 => ⟨S1, .f32⟩
  | 12 => ⟨S800x128, .f32⟩
  | 13 => ⟨S128, .f32⟩
  | 14 => ⟨S128x64, .f32⟩
  | 15 => ⟨S64, .f32⟩
  | 16 => ⟨S64x1, .f32⟩
  | 17 => ⟨S1, .f32⟩
  | 18 => ⟨S16x4096x64, .f32⟩
  | 19 => ⟨S1x1x64, .f32⟩
  | 20 => ⟨S16x4096x64, .f32⟩
  | 21 => ⟨S16x4096x64, .f32⟩
  | 22 => ⟨S_, .f32⟩
  | 23 => ⟨S_, .f32⟩
  | 24 => ⟨S16x4096x64, .i1⟩
  | 25 => ⟨S16x4096x64, .f32⟩
  | 26 => ⟨S16x4096x64, .f32⟩
  | 27 => ⟨S16x4096x64, .f32⟩
  | 28 => ⟨S16x4096x64, .f32⟩
  | 29 => ⟨S_, .f32⟩
  | 30 => ⟨S16x4096x64, .f32⟩
  | 31 => ⟨S16x4096x64, .f32⟩
  | 32 => ⟨S_, .f32⟩
  | 33 => ⟨S16x4096x64, .f32⟩
  | 34 => ⟨S16x4096x64, .f32⟩
  | 35 => ⟨S16x4096x1, .f32⟩
  | 36 => ⟨S1x1x1, .f32⟩
  | 37 => ⟨S16x4096x1, .f32⟩
  | 38 => ⟨S16x4096x1, .f32⟩
  | 39 => ⟨S_, .f32⟩
  | 40 => ⟨S_, .f32⟩
  | 41 => ⟨S16x4096x1, .f32⟩
  | 42 => ⟨S16x4096x1, .f32⟩
  | 43 => ⟨S16x1x4096, .f32⟩
  | 44 => ⟨S16x1x100, .f32⟩
  | 45 => ⟨S16x1x100, .i32⟩
  | 46 => ⟨S_, .f32⟩
  | 47 => ⟨S_, .f32⟩
  | 48 => ⟨S16x4096x1, .f32⟩
  | 49 => ⟨S16x4096x1, .f32⟩
  | 50 => ⟨S16x1x4096, .f32⟩
  | 51 => ⟨S16x1x4096, .f32⟩
  | 52 => ⟨S16x1x100, .f32⟩
  | 53 => ⟨S16x1x100, .i32⟩
  | 54 => ⟨S16x100x1, .f32⟩
  | 55 => ⟨S16x1x100, .f32⟩
  | 56 => ⟨S16x100x1, .f32⟩
  | 57 => ⟨S16x200x1, .f32⟩
  | 58 => ⟨S16x100x1, .i32⟩
  | 59 => ⟨S16x100x1, .i32⟩
  | 60 => ⟨S16x200x1, .i32⟩
  | 61 => ⟨S16x4096x64, .f32⟩
  | 62 => ⟨S1x1x64, .f32⟩
  | 63 => ⟨S16x4096x64, .f32⟩
  | 64 => ⟨S16x4096x64, .f32⟩
  | 65 => ⟨S_, .f32⟩
  | 66 => ⟨S_, .f32⟩
  | 67 => ⟨S16x4096x64, .i1⟩
  | 68 => ⟨S16x4096x64, .f32⟩
  | 69 => ⟨S16x4096x64, .f32⟩
  | 70 => ⟨S16x4096x64, .f32⟩
  | 71 => ⟨S16x4096x64, .f32⟩
  | 72 => ⟨S_, .f32⟩
  | 73 => ⟨S16x4096x64, .f32⟩
  | 74 => ⟨S16x4096x64, .f32⟩
  | 75 => ⟨S_, .f32⟩
  | 76 => ⟨S16x4096x64, .f32⟩
  | 77 => ⟨S16x4096x64, .f32⟩
  | 78 => ⟨S16x4096x1, .f32⟩
  | 79 => ⟨S1x1x1, .f32⟩
  | 80 => ⟨S16x4096x1, .f32⟩
  | 81 => ⟨S16x4096x1, .f32⟩
  | 82 => ⟨S_, .f32⟩
  | 83 => ⟨S_, .f32⟩
  | 84 => ⟨S16x4096x1, .f32⟩
  | 85 => ⟨S16x4096x1, .f32⟩
  | 86 => ⟨S16x1x4096, .f32⟩
  | 87 => ⟨S16x1x100, .f32⟩
  | 88 => ⟨S16x1x100, .i32⟩
  | 89 => ⟨S_, .f32⟩
  | 90 => ⟨S_, .f32⟩
  | 91 => ⟨S16x4096x1, .f32⟩
  | 92 => ⟨S16x4096x1, .f32⟩
  | 93 => ⟨S16x1x4096, .f32⟩
  | 94 => ⟨S16x1x4096, .f32⟩
  | 95 => ⟨S16x1x100, .f32⟩
  | 96 => ⟨S16x1x100, .i32⟩
  | 97 => ⟨S16x100x1, .f32⟩
  | 98 => ⟨S16x1x100, .f32⟩
  | 99 => ⟨S16x100x1, .f32⟩
  | 100 => ⟨S16x200x1, .f32⟩
  | 101 => ⟨S16x100x1, .i32⟩
  | 102 => ⟨S16x100x1, .i32⟩
  | 103 => ⟨S16x200x1, .i32⟩
  | 104 => ⟨S_, .i32⟩
  | 105 => ⟨S16x200x1, .i32⟩
  | 106 => ⟨S16x200x1, .i1⟩
  | 107 => ⟨S_, .i32⟩
  | 108 => ⟨S16x200x1, .i32⟩
  | 109 => ⟨S16x200x1, .i32⟩
  | 110 => ⟨S16x200x1, .i32⟩
  | 111 => ⟨S1, .i32⟩
  | 112 => ⟨S_, .i32⟩
  | 113 => ⟨S16x200x1, .i32⟩
  | 114 => ⟨S16x200x1, .i1⟩
  | 115 => ⟨S1x1x1, .i32⟩
  | 116 => ⟨S16x200x1, .i32⟩
  | 117 => ⟨S16x200x1, .i1⟩
  | 118 => ⟨S16x200x1, .i1⟩
  | 119 => ⟨S_, .i1⟩
  | 120 => ⟨S16x200, .i1⟩
  | 121 => ⟨S16x200x1, .f32⟩
  | 122 => ⟨S16x200x1, .i1⟩
  | 123 => ⟨S_, .f32⟩
  | 124 => ⟨S16x200x1, .f32⟩
  | 125 => ⟨S16x200x1, .f32⟩
  | 126 => ⟨S_, .i32⟩
  | 127 => ⟨S16x200x1, .i32⟩
  | _ => ⟨S16x4096x2048, .f32⟩

abbrev hbmTy0_1 (i : Nat) : BufTy := match i % 128 with
  | 0 => ⟨S16x200x1, .i1⟩
  | 1 => ⟨S_, .i32⟩
  | 2 => ⟨S16x200x1, .i32⟩
  | 3 => ⟨S16x200x1, .i32⟩
  | 4 => ⟨S16x200x1, .i32⟩
  | 5 => ⟨S1, .i32⟩
  | 6 => ⟨S_, .i32⟩
  | 7 => ⟨S16x200x1, .i32⟩
  | 8 => ⟨S16x200x1, .i1⟩
  | 9 => ⟨S1x1x1, .i32⟩
  | 10 => ⟨S16x200x1, .i32⟩
  | 11 => ⟨S16x200x1, .i1⟩
  | 12 => ⟨S16x200x1, .i1⟩
  | 13 => ⟨S_, .i1⟩
  | 14 => ⟨S16x200, .i1⟩
  | 15 => ⟨S16x200x1, .f32⟩
  | 16 => ⟨S16x200x1, .i1⟩
  | 17 => ⟨S_, .f32⟩
  | 18 => ⟨S16x200x1, .f32⟩
  | 19 => ⟨S16x200x1, .f32⟩
  | 20 => ⟨S16x800x1, .f32⟩
  | 21 => ⟨S16x1x800, .f32⟩
  | 22 => ⟨S16x1x128, .f32⟩
  | 23 => ⟨S1x1x128, .f32⟩
  | 24 => ⟨S16x1x128, .f32⟩
  | 25 => ⟨S16x1x128, .f32⟩
  | 26 => ⟨S16x1x128, .f32⟩
  | 27 => ⟨S16x1x128, .f32⟩
  | 28 => ⟨S_, .f32⟩
  | 29 => ⟨S16x1x128, .f32⟩
  | 30 => ⟨S16x1x128, .f32⟩
  | 31 => ⟨S_, .f32⟩
  | 32 => ⟨S16x1x128, .f32⟩
  | 33 => ⟨S16x1x128, .f32⟩
  | 34 => ⟨S16x1x64, .f32⟩
  | 35 => ⟨S1x1x64, .f32⟩
  | 36 => ⟨S16x1x64, .f32⟩
  | 37 => ⟨S16x1x64, .f32⟩
  | 38 => ⟨S16x1x64, .f32⟩
  | 39 => ⟨S16x1x64, .f32⟩
  | 40 => ⟨S_, .f32⟩
  | 41 => ⟨S16x1x64, .f32⟩
  | 42 => ⟨S16x1x64, .f32⟩
  | 43 => ⟨S_, .f32⟩
  | 44 => ⟨S16x1x64, .f32⟩
  | 45 => ⟨S16x1x64, .f32⟩
  | 46 => ⟨S16x1x1, .f32⟩
  | 47 => ⟨S1x1x1, .f32⟩
  | 48 => ⟨S16x1x1, .f32⟩
  | 49 => ⟨S16x1x1, .f32⟩
  | 50 => ⟨S16x1, .f32⟩
  | _ => ⟨S16x4096x2048, .f32⟩

abbrev hbmTy (i : Nat) : BufTy := match i / 128 with
  | 0 => hbmTy0_0 i
  | 1 => hbmTy0_1 i
  | _ => ⟨S16x4096x2048, .f32⟩

abbrev bufTy : (tb : Table) → Fin (tcTables nBuf tb) → BufTy
  | .hbm, ⟨i, _⟩ => hbmTy i
  | _, _ => ⟨S16x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_v15 : Ref sig .tc := ⟨.hbm, 42, rfl⟩
abbrev main_v16 : Ref sig .tc := ⟨.hbm, 43, rfl⟩
abbrev main_values : Ref sig .tc := ⟨.hbm, 44, rfl⟩
abbrev main_indices : Ref sig .tc := ⟨.hbm, 45, rfl⟩
abbrev main_cst_3 : Ref sig .tc := ⟨.hbm, 46, rfl⟩
abbrev main_call2_v0 : Ref sig .tc := ⟨.hbm, 47, rfl⟩
abbrev main_call2_v1 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_values_4 : Ref sig .tc := ⟨.hbm, 52, rfl⟩
abbrev main_indices_5 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_6 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_7 : Ref sig .tc := ⟨.hbm, 72, rfl⟩
abbrev main_v34 : Ref sig .tc := ⟨.hbm, 73, rfl⟩
abbrev main_v35 : Ref sig .tc := ⟨.hbm, 74, rfl⟩
abbrev main_cst_8 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_9 : Ref sig .tc := ⟨.hbm, 82, rfl⟩
abbrev main_call4_v0 : Ref sig .tc := ⟨.hbm, 83, rfl⟩
abbrev main_call4_v1 : Ref sig .tc := ⟨.hbm, 84, rfl⟩
abbrev main_v42 : Ref sig .tc := ⟨.hbm, 85, rfl⟩
abbrev main_v43 : Ref sig .tc := ⟨.hbm, 86, rfl⟩
abbrev main_values_10 : Ref sig .tc := ⟨.hbm, 87, rfl⟩
abbrev main_indices_11 : Ref sig .tc := ⟨.hbm, 88, rfl⟩
abbrev main_cst_12 : Ref sig .tc := ⟨.hbm, 89, rfl⟩
abbrev main_call5_v0 : Ref sig .tc := ⟨.hbm, 90, rfl⟩
abbrev main_call5_v1 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_values_13 : Ref sig .tc := ⟨.hbm, 95, rfl⟩
abbrev main_indices_14 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_call6_c : Ref sig .tc := ⟨.hbm, 104, rfl⟩
abbrev main_call6_v0 : Ref sig .tc := ⟨.hbm, 105, rfl⟩
abbrev main_call6_v1 : Ref sig .tc := ⟨.hbm, 106, rfl⟩
abbrev main_call6_c_0 : Ref sig .tc := ⟨.hbm, 107, rfl⟩
abbrev main_call6_v2 : Ref sig .tc := ⟨.hbm, 108, rfl⟩
abbrev main_call6_v3 : Ref sig .tc := ⟨.hbm, 109, rfl⟩
abbrev main_call6_v4 : Ref sig .tc := ⟨.hbm, 110, rfl⟩
abbrev main_call6_c_1 : Ref sig .tc := ⟨.hbm, 111, rfl⟩
abbrev main_call6_c_2 : Ref sig .tc := ⟨.hbm, 112, rfl⟩
abbrev main_call6_v5 : Ref sig .tc := ⟨.hbm, 113, rfl⟩
abbrev main_call6_v6 : Ref sig .tc := ⟨.hbm, 114, rfl⟩
abbrev main_call6_v7 : Ref sig .tc := ⟨.hbm, 115, rfl⟩
abbrev main_call6_v8 : Ref sig .tc := ⟨.hbm, 116, rfl⟩
abbrev main_call6_v9 : Ref sig .tc := ⟨.hbm, 117, rfl⟩
abbrev main_call6_v10 : Ref sig .tc := ⟨.hbm, 118, rfl⟩
abbrev main_call6_c_3 : Ref sig .tc := ⟨.hbm, 119, rfl⟩
abbrev main_call6_v11 : Ref sig .tc := ⟨.hbm, 120, rfl⟩
abbrev main_call6_v12 : Ref sig .tc := ⟨.hbm, 121, rfl⟩
abbrev main_call6_v13 : Ref sig .tc := ⟨.hbm, 122, rfl⟩
abbrev main_call6_cst : Ref sig .tc := ⟨.hbm, 123, rfl⟩
abbrev main_call6_v14 : Ref sig .tc := ⟨.hbm, 124, rfl⟩
abbrev main_v54 : Ref sig .tc := ⟨.hbm, 125, rfl⟩
abbrev main_call7_c : Ref sig .tc := ⟨.hbm, 126, rfl⟩
abbrev main_call7_v0 : Ref sig .tc := ⟨.hbm, 127, rfl⟩
abbrev main_call7_v1 : Ref sig .tc := ⟨.hbm, 128, rfl⟩
abbrev main_call7_c_0 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_call7_c_1 : Ref sig .tc := ⟨.hbm, 133, rfl⟩
abbrev main_call7_c_2 : Ref sig .tc := ⟨.hbm, 134, rfl⟩
abbrev main_call7_v5 : Ref sig .tc := ⟨.hbm, 135, rfl⟩
abbrev main_call7_v6 : Ref sig .tc := ⟨.hbm, 136, rfl⟩
abbrev main_call7_v7 : Ref sig .tc := ⟨.hbm, 137, rfl⟩
abbrev main_call7_v8 : Ref sig .tc := ⟨.hbm, 138, rfl⟩
abbrev main_call7_v9 : Ref sig .tc := ⟨.hbm, 139, rfl⟩
abbrev main_call7_v10 : Ref sig .tc := ⟨.hbm, 140, rfl⟩
abbrev main_call7_c_3 : Ref sig .tc := ⟨.hbm, 141, rfl⟩
abbrev main_call7_v11 : Ref sig .tc := ⟨.hbm, 142, rfl⟩
abbrev main_call7_v12 : Ref sig .tc := ⟨.hbm, 143, rfl⟩
abbrev main_call7_v13 : Ref sig .tc := ⟨.hbm, 144, rfl⟩
abbrev main_call7_cst : Ref sig .tc := ⟨.hbm, 145, rfl⟩
abbrev main_call7_v14 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_cst_15 : Ref sig .tc := ⟨.hbm, 156, rfl⟩
abbrev main_v64 : Ref sig .tc := ⟨.hbm, 157, rfl⟩
abbrev main_v65 : Ref sig .tc := ⟨.hbm, 158, rfl⟩
abbrev main_cst_16 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_cst_17 : Ref sig .tc := ⟨.hbm, 168, rfl⟩
abbrev main_v74 : Ref sig .tc := ⟨.hbm, 169, rfl⟩
abbrev main_v75 : Ref sig .tc := ⟨.hbm, 170, rfl⟩
abbrev main_cst_18 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩

abbrev nD : Nat := 1
abbrev τ : Topo := Topo.v7x

variable {F : FTy → Type} [FloatOps F]
-- ==== Proof.Frames.lean ====
/-
  The frame claims: each of the three programs runs to its end, leaves its arguments as they were and every
  semaphore counter at zero. The two kernels' frames are the generated ones; the reference declares no semaphore.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The side conditions that the precondition's operations take. -/
instance preFacts : Cert.Pre_unmasked_with_finite_heads.Facts where
  reducesTo_S16x4096x1_S_d0_1_2 := by decide
  h_S_ := by decide
  bcast_S_S64x1 := by decide
  reducesTo_S64x1_S_d0_1 := by decide
  bcast_S_S1 := by decide
  reducesTo_S1_S_d0 := by decide

/-- The kernel's frame. -/
theorem frame_kernel : Cert.quiescent_Kernel := fun m ρ _ => Cert.Kernel.Gen.frame m ρ

/-- The idealized kernel's frame. -/
theorem frame_kernelIdeal : Cert.quiescent_KernelIdeal := fun m ρ _ => Cert.KernelIdeal.Gen.frame m ρ

/-- The idealized kernel's frame from memories that satisfy the precondition: the same run. -/
theorem frame_kernelIdeal_pre : Cert.quiescent_KernelIdeal_pre_unmasked_with_finite_heads :=
  fun m ρ _ => Cert.KernelIdeal.Gen.frame m ρ

/-- The reference's run read at its arguments; it declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The same from memories that satisfy the precondition. -/
theorem frame_reference_pre : Cert.quiescent_ReferenceIdeal_pre_unmasked_with_finite_heads :=
  fun m ρ _ => frame_reference m ρ trivial

end Cert.Proof

end
-- ==== Proof.TopMath.lean ====
/-
  Repeated extraction of a greatest entry against the stable descending sort. A row `s` of extended reals is sorted by
  the stable sort of its positions under "greater" (`pick s k` is the position at rank `k`). A row from which the first
  `k` picked positions have been overwritten by `-∞` (`cand s k`) has its greatest entry at `pick s k`, and `pick s k` is
  the first position that holds it, as long as no entry of `s` is `-∞`.
-/
module

public import Idealize.ShloMosaic.Lib.SortFacts
public import Idealize.ShloMosaic.PureOps.Ideal

@[expose] public section

noncomputable section

namespace Cert.Proof.TopMath

open Idealize.ShloMosaic

variable {N : Nat}

/-- Position `k` sorts before position `k'`: its entry is greater. -/
def before (s : Fin N → EReal) (k k' : Fin N) : Bool := decide (s k' < s k)

/-- The position that the stable descending sort of `s` puts at rank `k`. -/
def pick (s : Fin N → EReal) (k : Fin N) : Fin N := sortedFrom (before s) k

/-- `a` comes before `b` in the stable descending order: its entry is greater, or equal and `a` is the lower position. -/
def Ahead (s : Fin N → EReal) (a b : Fin N) : Prop := s b < s a ∨ (s b = s a ∧ a < b)

/-- The stable order is transitive. -/
theorem Ahead.trans {s : Fin N → EReal} {a b c : Fin N} (h : Ahead s a b) (h' : Ahead s b c) : Ahead s a c := by
  rcases h with h | ⟨h, hab⟩ <;> rcases h' with h' | ⟨h', hbc⟩
  · exact .inl (h'.trans h)
  · exact .inl (h' ▸ h)
  · exact .inl (h ▸ h')
  · exact .inr ⟨h'.trans h, hab.trans hbc⟩

/-- Inserting a position that is lower than all of an ordered list keeps the list in the stable order. -/
theorem pairwise_insert (s : Fin N → EReal) (a : Fin N) (l : List (Fin N)) (hl : l.Pairwise (Ahead s))
    (ha : ∀ b ∈ l, a < b) : (insertBefore (before s) a l).Pairwise (Ahead s) := by
  induction l with
  | nil => exact List.pairwise_singleton _ _
  | cons b l ih =>
    have hl' := List.pairwise_cons.1 hl
    unfold insertBefore
    by_cases h : s a < s b
    · rw [if_pos (by simpa [before] using h)]
      refine List.pairwise_cons.2 ⟨fun c hc => ?_, ih hl'.2 fun c hc => ha c (List.mem_cons_of_mem _ hc)⟩
      rcases List.mem_cons.1 ((perm_insertBefore (before s) a l).mem_iff.1 hc) with rfl | hc
      · exact .inl h
      · exact hl'.1 c hc
    · rw [if_neg (by simpa [before] using h)]
      have hab : Ahead s a b := by
        rcases (not_lt.1 h).lt_or_eq with h | h
        · exact .inl h
        · exact .inr ⟨h, ha b List.mem_cons_self⟩
      refine List.pairwise_cons.2 ⟨fun c hc => ?_, hl⟩
      rcases List.mem_cons.1 hc with rfl | hc
      · exact hab
      · exact hab.trans (hl'.1 c hc)

/-- The stable sort of an increasing list of positions is in the stable order. -/
theorem pairwise_sort (s : Fin N → EReal) (l : List (Fin N)) (hl : l.Pairwise (· < ·)) :
    (stableSort (before s) l).Pairwise (Ahead s) := by
  induction l with
  | nil => exact List.Pairwise.nil
  | cons a l ih =>
    have hl' := List.pairwise_cons.1 hl
    exact pairwise_insert s a _ (ih hl'.2) fun b hb => hl'.1 b ((perm_stableSort (before s) l).mem_iff.1 hb)

/-- Ranks in order are positions in the stable order. -/
theorem pick_ahead (s : Fin N → EReal) {j k : Fin N} (h : j < k) : Ahead s (pick s j) (pick s k) := by
  have hp : (sortPositions N (before s)).Pairwise (Ahead s) := pairwise_sort s _ (List.pairwise_lt_finRange N)
  exact List.pairwise_iff_get.1 hp _ _ h

/-- Position `n` is among the first `k` picked. -/
def Taken (s : Fin N → EReal) (k : Nat) (n : Fin N) : Prop := ∃ j : Fin N, j.val < k ∧ pick s j = n

open Classical in
/-- The row with its first `k` picked positions overwritten by `-∞`. -/
def cand (s : Fin N → EReal) (k : Nat) (n : Fin N) : EReal := if Taken s k n then ⊥ else s n

/-- Nothing is picked before the first rank. -/
theorem cand_zero (s : Fin N → EReal) : cand s 0 = s := by
  funext n
  exact if_neg fun ⟨j, hj, _⟩ => absurd hj (Nat.not_lt_zero _)

/-- The next row overwrites the next picked position. -/
theorem cand_succ (s : Fin N → EReal) (k : Fin N) (n : Fin N) :
    cand s (k.val + 1) n = if n = pick s k then ⊥ else cand s k.val n := by
  unfold cand
  by_cases h : n = pick s k
  · rw [if_pos h, if_pos ⟨k, Nat.lt_succ_self _, h.symm⟩]
  · rw [if_neg h]
    congr 1
    refine propext ⟨fun ⟨j, hj, e⟩ => ⟨j, ?_, e⟩, fun ⟨j, hj, e⟩ => ⟨j, Nat.lt_succ_of_lt hj, e⟩⟩
    rcases Nat.lt_succ_iff_lt_or_eq.1 hj with hj | hj
    · exact hj
    · exact absurd (by rw [← e, Fin.ext hj]) h

/-- The position at rank `k` is not among the first `k`. -/
theorem not_taken_pick (s : Fin N → EReal) (k : Fin N) : ¬ Taken s k.val (pick s k) := by
  rintro ⟨j, hj, e⟩
  have := sortedFrom_injective (before s) e
  subst this
  exact absurd hj (lt_irrefl _)

/-- What is left at the position of rank `k` is the row's own entry. -/
theorem cand_pick (s : Fin N → EReal) (k : Fin N) : cand s k.val (pick s k) = s (pick s k) :=
  if_neg (not_taken_pick s k)

/-- A position not among the first `k` is the position of rank `k` or behind it. -/
theorem eq_or_ahead (s : Fin N → EReal) (k : Fin N) (n : Fin N) (h : ¬ Taken s k.val n) :
    n = pick s k ∨ Ahead s (pick s k) n := by
  obtain ⟨j, rfl⟩ := sortedFrom_surjective (before s) n
  rcases lt_trichotomy j k with hj | rfl | hj
  · exact absurd ⟨j, hj, rfl⟩ h
  · exact .inl rfl
  · exact .inr (pick_ahead s hj)

/-- The greatest entry left is the row's entry of rank `k`. -/
theorem cand_le (s : Fin N → EReal) (k n : Fin N) : cand s k.val n ≤ s (pick s k) := by
  unfold cand
  split
  · exact bot_le
  · rename_i h
    rcases eq_or_ahead s k n h with rfl | h | ⟨h, _⟩
    · exact le_rfl
    · exact h.le
    · exact h.le

/-- The first position that holds the greatest entry left is the position of rank `k`. -/
theorem pick_le (s : Fin N → EReal) (hs : ∀ n, s n ≠ ⊥) (k n : Fin N) (h : cand s k.val n = s (pick s k)) :
    pick s k ≤ n := by
  unfold cand at h
  split at h
  · exact absurd h.symm (hs _)
  · rename_i hn
    rcases eq_or_ahead s k n hn with rfl | h' | ⟨_, h'⟩
    · exact le_rfl
    · exact absurd h h'.ne
    · exact h'.le

/-- The running maximum of the row that is left, from `-∞`, is the entry of rank `k`. -/
theorem fold_max_cand (s : Fin N → EReal) (k : Fin N) :
    Finset.univ.fold max ⊥ (fun n => cand s k.val n) = s (pick s k) := by
  refine le_antisymm (Finset.fold_max_le _ |>.2 ⟨bot_le, fun n _ => cand_le s k n⟩) ?_
  exact Finset.le_fold_max _ |>.2 (.inr ⟨pick s k, Finset.mem_univ _, (cand_pick s k).ge⟩)

end Cert.Proof.TopMath

end
-- ==== Proof.Extract.lean ====
/-
  The extraction kernel's body as a function of its inputs: the loop that takes the greatest entry of each of the 64
  rows a hundred times leaves, in column `k` of its two accumulators, the row's entry of rank `k` in the stable
  descending order and the partner row's entry at the same position.
-/
module

public import proofs.«01_k».proof.Proof.Gen.KernelIdeal.Skeleton
public import proofs.«01_k».proof.Proof.TopMath
public import Idealize.ShloMosaic.Lib.Pointwise

@[expose] public section

set_option maxRecDepth 16384

noncomputable section

namespace Cert.Proof.Extract

open Idealize.ShloMosaic Cert.KernelIdeal Cert.KernelIdeal.Gen Idealize.ShloMosaic.Pointwise
open Cert.Proof.TopMath (pick)

/-! ## A counted loop's value, and the first position of a least word -/

/-- What holds of the entry value and is kept by every trip holds of the value a counted loop leaves. -/
theorem fold_induct {σ : Type} {n : Nat} (g : Fin n → σ → σ) (s : σ) (P : Nat → σ → Prop) (h0 : P 0 s)
    (hs : ∀ (k : Fin n) (x : σ), P k.val x → P (k.val + 1) (g k x)) : P n (Scf.fold g s) := by
  rw [Scf.fold_eq]
  have key : ∀ m : Nat, (hm : m ≤ n) → P m (((List.finRange n).take m).foldl (fun acc k => g k acc) s) := by
    intro m
    induction m with
    | zero => intro _; simpa using h0
    | succ m ih =>
      intro hm
      have hlt : m < (List.finRange n).length := by simpa using hm
      rw [List.take_succ_eq_append_getElem hlt, List.foldl_append]
      have := hs ⟨m, hm⟩ _ (ih (by omega))
      simpa using this
  have := key n le_rfl
  rwa [List.take_of_length_le (by simp)] at this

/-- The least of finitely many small words, read signed from the greatest word down, is the word of the least number. -/
theorem fold_minsi {N : Nat} (f : Fin N → Nat) (p : Nat) (hf : ∀ n, f n ≤ 4096) (hp : ∀ n, p ≤ f n)
    (he : ∃ n, f n = p) :
    Finset.univ.fold IntOp.minsi 2147483647#32 (fun n => BitVec.ofNat 32 (f n)) = BitVec.ofNat 32 p := by
  have hm : ∀ x y : BitVec 32, (IntOp.minsi x y).toInt = min x.toInt y.toInt := by
    intro x y
    unfold IntOp.minsi
    rw [BitVec.slt_eq_decide]
    by_cases h : x.toInt < y.toInt
    · simp [h, h.le]
    · simp [h, not_lt.1 h]
  have ht : ∀ k : Nat, k ≤ 4096 → (BitVec.ofNat 32 k).toInt = (k : Int) := by
    intro k hk
    rw [BitVec.toInt_ofNat']
    simp only [Int.bmod_def]
    omega
  obtain ⟨q, hq⟩ := he
  have hp' : p ≤ 4096 := hq ▸ hf q
  apply BitVec.eq_of_toInt_eq
  rw [← Finset.fold_hom (op' := min) hm]
  simp only [ht _ (hf _), ht p hp']
  refine le_antisymm (Finset.fold_min_le _ |>.2 (.inr ⟨q, Finset.mem_univ _, by rw [hq]⟩)) ?_
  refine Finset.le_fold_min _ |>.2 ⟨?_, fun n _ => by exact_mod_cast hp n⟩
  have : (2147483647#32 : BitVec 32).toInt = 2147483647 := by decide
  rw [this]
  omega

/-- A choice by a decided bit. -/
theorem select_bit {α : Type} (p : Prop) [Decidable p] (x y : α) :
    Scalar.select (BitVec.ofBool (decide p)) x y = if p then x else y := by
  by_cases h : p <;> simp [Scalar.select, h]

/-! ## The rows -/

/-- The pattern the kernel writes over a taken entry is `-∞`. -/
theorem ofBits_neg_inf : Idealize.ShloMosaic.Ideal.ofBits FTy.f32 4286578688#32 = ⊥ := by
  simp [Idealize.ShloMosaic.Ideal.ofBits, Idealize.ShloMosaic.Ideal.ieee]

/-- Row `r` of the 64 rows searched: the first scores, the second scores, then their negatives, sixteen rows each. -/
def base (a b : Fin 16 → Fin 4096 → EReal) (r : Fin 64) (n : Fin 4096) : EReal :=
  if h : r.val < 16 then a ⟨r.val, h⟩ n
  else if h : r.val - 16 < 16 then b ⟨r.val - 16, h⟩ n
  else if h : r.val - 16 - 16 < 16 then -a ⟨r.val - 16 - 16, h⟩ n
  else -b ⟨r.val - 16 - 16 - 16, by omega⟩ n

/-- The partner of row `r`: the other scores of the same batch entry. -/
def partner (a b : Fin 16 → Fin 4096 → EReal) (r : Fin 64) (n : Fin 4096) : EReal :=
  if h : r.val < 16 then b ⟨r.val, h⟩ n
  else if h : r.val - 16 < 16 then a ⟨r.val - 16, h⟩ n
  else if h : r.val - 16 - 16 < 16 then b ⟨r.val - 16 - 16, h⟩ n
  else a ⟨r.val - 16 - 16 - 16, by omega⟩ n

/-- The rows of a two-axis array. -/
abbrev rows (a : Vec Ideal S16x4096 .f32) : Fin 16 → Fin 4096 → EReal := fun r n => a (ix2 r n)

/-- The rows the loop starts from. -/
theorem start_apply (a b : Vec Ideal S16x4096 .f32) (r : Fin 64) (n : Fin 4096) :
    k1_pay4 (F := Ideal) a b (ix2 r n) = base (rows a) (rows b) r n := by
  unfold base
  pointwise [k1_pay4, k1_pay2, k1_pay3]
  simp only [zero_sub]

/-- The start of the two accumulators is zero. -/
theorem zeros_apply (r : Fin 64) (z : Fin 128) : k1_pay5 (F := Ideal) (ix2 r z) = 0 := by
  pointwise [k1_pay5]

/-- If no score is infinite, no searched row holds `-∞`. -/
theorem base_ne_bot (a b : Fin 16 → Fin 4096 → EReal) (ha : ∀ r n, a r n ≠ ⊥ ∧ a r n ≠ ⊤)
    (hb : ∀ r n, b r n ≠ ⊥ ∧ b r n ≠ ⊤) (r : Fin 64) (n : Fin 4096) : base a b r n ≠ ⊥ := by
  unfold base
  split
  · exact (ha _ _).1
  split
  · exact (hb _ _).1
  split
  · exact fun h => (ha _ _).2 (EReal.neg_eq_bot_iff.1 h)
  · exact fun h => (hb _ _).2 (EReal.neg_eq_bot_iff.1 h)

/-! ## One trip -/

section Trip

variable (c : FVec Ideal S64x4096 .f32) (s : Fin 64 → Fin 4096 → EReal) (hs : ∀ r n, s r n ≠ ⊥) (k : Fin 4096)
  (hc : ∀ r n, c (ix2 r n) = TopMath.cand (s r) k.val n)

include hc in
/-- The greatest entry left in a row is the row's entry of rank `k`. -/
theorem max_apply (r : Fin 64) (z : Fin 1) : k1_pay6 c (ix2 r z) = s r (pick (s r) k) := by
  rw [← TopMath.fold_max_cand (s r), ← ofBits_neg_inf]
  pointwise [k1_pay6]
  simp only [hc]

include hs hc in
/-- The mask of a trip is the position of rank `k`. -/
theorem mask_apply (r : Fin 64) (n : Fin 4096) :
    k1_pay7 c (ix2 r n) = BitVec.ofBool (decide (n = pick (s r) k)) := by
  pointwise [k1_pay7]
  have hf : ∀ x : Fin 4096, (if c (ix2 r x) = k1_pay6 c (ix2 r 0) then BitVec.ofNat 32 x.val else 4096#32)
      = BitVec.ofNat 32 (if TopMath.cand (s r) k.val x = s r (pick (s r) k) then x.val else 4096) := by
    intro x
    rw [max_apply c s k hc, hc]
    split <;> rfl
  simp only [hf]
  rw [fold_minsi _ (pick (s r) k).val (fun x => by split <;> omega) (fun x => ?_)
    ⟨pick (s r) k, by rw [if_pos (TopMath.cand_pick _ _)]⟩]
  · unfold IntOp.cmpi
    refine congrArg BitVec.ofBool (Bool.eq_iff_iff.2 ?_)
    simp only [beq_iff_eq, decide_eq_true_eq]
    constructor
    · intro h
      have := congrArg BitVec.toNat h
      simp only [BitVec.toNat_ofNat] at this
      exact Fin.ext (by omega)
    · intro h
      rw [h]
  · split
    · rename_i h
      exact TopMath.pick_le (s r) (hs r) k x h
    · omega

include hs hc in
/-- The rows after a trip. -/
theorem next_apply (r : Fin 64) (n : Fin 4096) : k1_pay11 c (ix2 r n) = TopMath.cand (s r) (k.val + 1) n := by
  rw [TopMath.cand_succ]
  pointwise [k1_pay11]
  rw [mask_apply c s hs k hc, ofBits_neg_inf, hc, select_bit]

end Trip

/-- The column a trip writes. -/
theorem column_apply (k : Fin k1_t1_loop.trips) (r : Fin 64) (z : Fin 128) :
    k1_pay8 k (ix2 r z) = BitVec.ofBool (decide (z.val = k.val)) := by
  have hk : k.val < 100 := lt_of_lt_of_eq k.isLt (by decide)
  pointwise [k1_pay8]
  unfold IntOp.cmpi
  refine congrArg BitVec.ofBool (Bool.eq_iff_iff.2 ?_)
  simp only [beq_iff_eq, decide_eq_true_eq]
  have e : Scf.iv 0#32 1#32 k.val = BitVec.ofNat 32 k.val := by
    unfold Scf.iv
    simp
  rw [e]
  constructor
  · intro h
    have := congrArg BitVec.toNat h
    simp only [BitVec.toNat_ofNat] at this
    omega
  · intro h
    rw [h]

/-- A trip writes the partner's entry at the position of rank `k`. -/
theorem across_apply (a b : Vec Ideal S16x4096 .f32) (c : FVec Ideal S64x4096 .f32) (v : FVec Ideal S64x128 .f32)
    (s : Fin 64 → Fin 4096 → EReal) (hs : ∀ r n, s r n ≠ ⊥) (k : Fin k1_t1_loop.trips) (hk : k.val < 4096)
    (hc : ∀ r n, c (ix2 r n) = TopMath.cand (s r) k.val n) (r : Fin 64) (z : Fin 128) :
    k1_pay10 a b k c v (ix2 r z)
      = if z.val = k.val then partner (rows a) (rows b) r (pick (s r) ⟨k.val, hk⟩) else v (ix2 r z) := by
  pointwise [k1_pay10, k1_pay2, k1_pay3]
  simp only [mask_apply c s hs ⟨k.val, hk⟩ hc, select_bit]
  rw [Finset.sum_ite_eq' Finset.univ, if_pos (Finset.mem_univ _), column_apply, select_bit]
  rfl

/-! ## The loop -/

/-- The position of rank `k`, the rank as a number. -/
def rank (s : Fin 4096 → EReal) (k : Nat) : Fin 4096 := pick s ⟨k % 4096, Nat.mod_lt _ (by decide)⟩

/-- What the loop leaves: the rows, the entries taken and their partners. -/
def swept (a b : Vec Ideal S16x4096 .f32) : FVec Ideal S64x4096 .f32 × FVec Ideal S64x128 .f32 × FVec Ideal S64x128 .f32 :=
  Scf.fold (fun (k : Fin k1_t1_loop.trips) (x : FVec Ideal S64x4096 .f32 × FVec Ideal S64x128 .f32 × FVec Ideal S64x128 .f32) =>
      (k1_pay11 x.1, k1_pay9 k x.1 x.2.1, k1_pay10 a b k x.1 x.2.2))
    (k1_pay4 a b, k1_pay5, k1_pay5)

/-- The state after `k` trips: `k` entries of each row are taken, and the first `k` columns hold them and their
    partners. -/
structure After (a b : Fin 16 → Fin 4096 → EReal) (k : Nat)
    (x : FVec Ideal S64x4096 .f32 × FVec Ideal S64x128 .f32 × FVec Ideal S64x128 .f32) : Prop where
  left : ∀ r n, x.1 (ix2 r n) = TopMath.cand (base a b r) k n
  taken : ∀ r (z : Fin 128), x.2.1 (ix2 r z) = if z.val < k then base a b r (rank (base a b r) z.val) else 0
  across : ∀ r (z : Fin 128), x.2.2 (ix2 r z) = if z.val < k then partner a b r (rank (base a b r) z.val) else 0

/-- The loop leaves a hundred entries of each row and their partners, in rank order. -/
theorem swept_after (a b : Vec Ideal S16x4096 .f32) (ha : ∀ r n, rows a r n ≠ ⊥ ∧ rows a r n ≠ ⊤)
    (hb : ∀ r n, rows b r n ≠ ⊥ ∧ rows b r n ≠ ⊤) : After (rows a) (rows b) 100 (swept a b) := by
  have h100 : k1_t1_loop.trips = 100 := by decide
  refine h100 ▸ fold_induct _ _ (After (rows a) (rows b)) ⟨fun r n => ?_, fun r z => ?_, fun r z => ?_⟩ ?_
  · rw [TopMath.cand_zero]
    exact start_apply a b r n
  · rw [if_neg (Nat.not_lt_zero _)]
    exact zeros_apply r z
  · rw [if_neg (Nat.not_lt_zero _)]
    exact zeros_apply r z
  · intro k x h
    have hk : k.val < 100 := lt_of_lt_of_eq k.isLt h100
    have hn := base_ne_bot _ _ ha hb
    have hr : ∀ s, pick s (⟨k.val, by omega⟩ : Fin 4096) = rank s k.val := fun s => by
      unfold rank
      congr 2
      omega
    have hl := fun r n => h.left r n
    refine ⟨fun r n => ?_, fun r z => ?_, fun r z => ?_⟩
    · dsimp only
      rw [next_apply x.1 (base (rows a) (rows b)) hn ⟨k.val, by omega⟩ hl r n]
    · show k1_pay9 k x.1 x.2.1 (ix2 r z) = _
      pointwise [k1_pay9]
      rw [column_apply, select_bit, max_apply x.1 (base (rows a) (rows b)) ⟨k.val, by omega⟩ hl, hr, h.taken]
      by_cases e : z.val = k.val
      · rw [if_pos e, if_pos (by omega), e]
      · rw [if_neg e]
        refine if_congr ?_ rfl rfl
        omega
    · show k1_pay10 a b k x.1 x.2.2 (ix2 r z) = _
      rw [across_apply a b x.1 x.2.2 (base (rows a) (rows b)) hn k (by omega) hl, hr, h.across]
      by_cases e : z.val = k.val
      · rw [if_pos e, if_pos (by omega), e]
      · rw [if_neg e]
        refine if_congr ?_ rfl rfl
        omega

/-! ## The row of extreme scores -/

/-- The extreme scores of one batch entry with scores `s` and `t`: the hundred greatest and the hundred least of `s`,
    `s` where `t` is greatest and least, the same of `t`, and `t` where `s` is greatest and least. -/
def extremes (s t : Fin 4096 → EReal) (n : Fin 800) : EReal :=
  if n.val < 200 then
    if n.val < 100 then s (rank s n.val) else s (rank (fun m => -s m) (n.val - 100))
  else if n.val - 200 < 200 then
    if n.val - 200 < 100 then s (rank t (n.val - 200)) else s (rank (fun m => -t m) (n.val - 200 - 100))
  else if n.val - 200 - 200 < 200 then
    if n.val - 200 - 200 < 100 then t (rank t (n.val - 200 - 200))
    else t (rank (fun m => -t m) (n.val - 200 - 200 - 100))
  else
    if n.val - 200 - 200 - 200 < 100 then t (rank s (n.val - 200 - 200 - 200))
    else t (rank (fun m => -s m) (n.val - 200 - 200 - 200 - 100))

/-- A searched row is one of the scores or the negative of one. -/
theorem base_block (a b : Fin 16 → Fin 4096 → EReal) (r : Fin 16) :
    base a b ⟨r.val, by omega⟩ = a r ∧ base a b ⟨16 + r.val, by omega⟩ = b r
      ∧ base a b ⟨32 + r.val, by omega⟩ = (fun n => -a r n) ∧ base a b ⟨48 + r.val, by omega⟩ = fun n => -b r n := by
  refine ⟨?_, ?_, ?_, ?_⟩ <;> funext n <;> unfold base
  · rw [dif_pos (by show r.val < 16; omega)]
  · rw [dif_neg (by show ¬ 16 + r.val < 16; omega), dif_pos (by show 16 + r.val - 16 < 16; omega)]
    congr 2
    show 16 + r.val - 16 = r.val
    omega
  · rw [dif_neg (by show ¬ 32 + r.val < 16; omega), dif_neg (by show ¬ 32 + r.val - 16 < 16; omega),
      dif_pos (by show 32 + r.val - 16 - 16 < 16; omega)]
    congr 3
    show 32 + r.val - 16 - 16 = r.val
    omega
  · rw [dif_neg (by show ¬ 48 + r.val < 16; omega), dif_neg (by show ¬ 48 + r.val - 16 < 16; omega),
      dif_neg (by show ¬ 48 + r.val - 16 - 16 < 16; omega)]
    congr 3
    show 48 + r.val - 16 - 16 - 16 = r.val
    omega

/-- The partner of a searched row. -/
theorem partner_block (a b : Fin 16 → Fin 4096 → EReal) (r : Fin 16) :
    partner a b ⟨r.val, by omega⟩ = b r ∧ partner a b ⟨16 + r.val, by omega⟩ = a r
      ∧ partner a b ⟨32 + r.val, by omega⟩ = b r ∧ partner a b ⟨48 + r.val, by omega⟩ = a r := by
  refine ⟨?_, ?_, ?_, ?_⟩ <;> funext n <;> unfold partner
  · rw [dif_pos (by show r.val < 16; omega)]
  · rw [dif_neg (by show ¬ 16 + r.val < 16; omega), dif_pos (by show 16 + r.val - 16 < 16; omega)]
    congr 2
    show 16 + r.val - 16 = r.val
    omega
  · rw [dif_neg (by show ¬ 32 + r.val < 16; omega), dif_neg (by show ¬ 32 + r.val - 16 < 16; omega),
      dif_pos (by show 32 + r.val - 16 - 16 < 16; omega)]
    congr 2
    show 32 + r.val - 16 - 16 = r.val
    omega
  · rw [dif_neg (by show ¬ 48 + r.val < 16; omega), dif_neg (by show ¬ 48 + r.val - 16 < 16; omega),
      dif_neg (by show ¬ 48 + r.val - 16 - 16 < 16; omega)]
    congr 2
    show 48 + r.val - 16 - 16 - 16 = r.val
    omega

/-- The extreme scores the kernel stores. -/
theorem ext_apply (a b : Vec Ideal S16x4096 .f32) (ha : ∀ r n, rows a r n ≠ ⊥ ∧ rows a r n ≠ ⊤)
    (hb : ∀ r n, rows b r n ≠ ⊥ ∧ rows b r n ≠ ⊤) (r : Fin 16) (n : Fin 800) :
    k1_pay12 (swept a b).2.1 (swept a b).2.2 (ix2 r n) = extremes (rows a r) (rows b r) n := by
  have h := swept_after a b ha hb
  obtain ⟨b0, b1, b2, b3⟩ := base_block (rows a) (rows b) r
  obtain ⟨p0, p1, p2, p3⟩ := partner_block (rows a) (rows b) r
  unfold extremes
  pointwise [k1_pay12]
  repeat' split
  all_goals
    simp only [h.taken, h.across, b0, b1, b2, b3, p0, p1, p2, p3, zero_sub]
    rw [if_pos (by omega)]
    try rw [neg_neg]

/-! ## The prediction layers -/

/-- A layer of the prediction: the row times the weights, plus the bias. -/
def layer {I J : Nat} (z : Fin I → EReal) (W : Fin I → Fin J → EReal) (bias : Fin J → EReal) (j : Fin J) : EReal :=
  (∑ i, z i * W i j) + bias j

/-- The prediction from a row of extreme scores. -/
def predict (e : Fin 800 → EReal) (W1 : Fin 800 → Fin 128 → EReal) (b1 : Fin 128 → EReal) (W2 : Fin 128 → Fin 64 → EReal)
    (b2 : Fin 64 → EReal) (W3 : Fin 64 → Fin 1 → EReal) (b3 : Fin 1 → EReal) : EReal :=
  layer (fun i => Idealize.ShloMosaic.Ideal.logistic (layer (fun i => Idealize.ShloMosaic.Ideal.logistic (layer e W1 b1 i)) W2 b2 i))
    W3 b3 0

/-- The prediction the kernel stores. -/
theorem predict_apply (vals cross : FVec Ideal S64x128 .f32) (W1 : Vec Ideal S800x128 .f32) (b1 : Vec Ideal S1x128 .f32)
    (W2 : Vec Ideal S128x64 .f32) (b2 : Vec Ideal S1x64 .f32) (W3 : Vec Ideal S64x1 .f32) (b3 : Vec Ideal S1x1 .f32)
    (r : Fin 16) (z : Fin 1) :
    k1_pay1 (k1_pay13 vals cross W1) (k1_pay14 b1) W2 b2 W3 b3 (ix2 r z)
      = predict (fun n => k1_pay12 vals cross (ix2 r n)) (fun i j => W1 (ix2 i j)) (fun j => b1 (ix2 0 j))
          (fun i j => W2 (ix2 i j)) (fun j => b2 (ix2 0 j)) (fun i j => W3 (ix2 i j)) (fun j => b3 (ix2 0 j)) := by
  unfold predict layer
  pointwise [k1_pay1, k1_pay13, k1_pay14]
  rw [Subsingleton.elim z 0]

end Cert.Proof.Extract

end
-- ==== Proof.Scores.lean ====
/-
  The scoring kernel's two result arrays, and the same scores as the extraction kernel reads them: entry (r, n) is the
  score of tile n of batch entry r, the sigmoid layer followed by the second layer.
-/
module

public import proofs.«01_k».proof.Proof.Extract
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Proof.Scores

open Idealize.ShloMosaic Idealize.ShloMosaic.TcCoe Idealize.SL.Sem Cert.KernelIdeal Cert.KernelIdeal.Gen
open Idealize.ShloMosaic.Pointwise Idealize.ShloMosaic.Pipeline
open Cert.Proof.Extract (layer)

/-- The score of a tile: the sigmoid layer, then the second layer. -/
def score {D : Nat} (x : Fin D → EReal) (W1 : Fin D → Fin 64 → EReal) (b1 : Fin 64 → EReal) (W2 : Fin 64 → Fin 1 → EReal)
    (b2 : Fin 1 → EReal) : EReal :=
  layer (fun h => Idealize.ShloMosaic.Ideal.logistic (layer x W1 b1 h)) W2 b2 0

/-! ## The body -/

/-- The first scores of a block of 1024 tiles. -/
theorem first_apply (x : Vec Ideal S1x1024x2048 .f32) (W1 : Vec Ideal S2048x64 .f32) (b1 : Vec Ideal S1x64 .f32)
    (W2 : Vec Ideal S64x1 .f32) (b2 : Vec Ideal S1x1 .f32) (n : Fin 1024) :
    k0_pay2 x W1 b1 W2 b2 (ix3 0 0 n)
      = score (fun d => x (ix3 0 n d)) (fun d h => W1 (ix2 d h)) (fun h => b1 (ix2 0 h)) (fun h z => W2 (ix2 h z))
          (fun z => b2 (ix2 0 z)) := by
  unfold score layer
  pointwise [k0_pay2]

/-- The second scores of a block of 1024 tiles. -/
theorem second_apply (x : Vec Ideal S1x1024x1024 .f32) (W1 : Vec Ideal S1024x64 .f32) (b1 : Vec Ideal S1x64 .f32)
    (W2 : Vec Ideal S64x1 .f32) (b2 : Vec Ideal S1x1 .f32) (n : Fin 1024) :
    k0_pay1 (k0_pay3 x W1 b1 W2) b2 (ix3 0 0 n)
      = score (fun d => x (ix3 0 n d)) (fun d h => W1 (ix2 d h)) (fun h => b1 (ix2 0 h)) (fun h z => W2 (ix2 h z))
          (fun z => b2 (ix2 0 z)) := by
  unfold score layer
  pointwise [k0_pay1, k0_pay3]

/-! ## The blocks a point reads -/

/-- Point `t` writes block `t` of both results. -/
theorem index_out : ∀ t : Fin grid0.N, win0_10.index t = ![t.val, 0, 0] ∧ win0_11.index t = ![t.val, 0, 0] := by
  decide +kernel

/-- Point `t` reads tiles `1024 (t mod 4)` on of batch entry `t / 4`, and the weights whole. -/
theorem index_in : ∀ t : Fin grid0.N,
    win0_0.index t = ![t.val / 4, t.val % 4, 0] ∧ win0_1.index t = ![t.val / 4, t.val % 4, 0]
      ∧ win0_2.index t = ![0, 0] ∧ win0_3.index t = ![0, 0] ∧ win0_4.index t = ![0, 0] ∧ win0_5.index t = ![0, 0]
      ∧ win0_6.index t = ![0, 0] ∧ win0_7.index t = ![0, 0] ∧ win0_8.index t = ![0, 0] ∧ win0_9.index t = ![0, 0] := by
  decide +kernel

variable (m : (ℓ : Loc nD τ sig) → Buf (Elt Ideal) ℓ) (ρ : Dev nD → PrngReg)

/-- The first scores' first bias row at the scoring kernel's entry. -/
theorem entry_v0 (c : Dev nD) :
    V1 m ρ c main_v0 = fun x : S1x64.Idx => m ((c : Thread nD τ).loc main_arg5) (ix1 (x 1)) := by
  show StableHlo.after hostOps0 (W0 m ρ c) (Proc.devRef .tc main_v0) = _
  entry_read
  funext x
  pointwise

/-- The first scores' second bias at the scoring kernel's entry. -/
theorem entry_v1 (c : Dev nD) :
    V1 m ρ c main_v1 = fun x : S1x1.Idx => m ((c : Thread nD τ).loc main_arg7) (ix1 (x 1)) := by
  show StableHlo.after hostOps0 (W0 m ρ c) (Proc.devRef .tc main_v1) = _
  entry_read
  funext x
  pointwise
  exact congrArg _ (congrArg ix1 (Subsingleton.elim (α := Fin 1) _ _))

/-- The second scores' first bias row at the scoring kernel's entry. -/
theorem entry_v2 (c : Dev nD) :
    V1 m ρ c main_v2 = fun x : S1x64.Idx => m ((c : Thread nD τ).loc main_arg9) (ix1 (x 1)) := by
  show StableHlo.after hostOps0 (W0 m ρ c) (Proc.devRef .tc main_v2) = _
  entry_read
  funext x
  pointwise

/-- The second scores' second bias at the scoring kernel's entry. -/
theorem entry_v3 (c : Dev nD) :
    V1 m ρ c main_v3 = fun x : S1x1.Idx => m ((c : Thread nD τ).loc main_arg11) (ix1 (x 1)) := by
  show StableHlo.after hostOps0 (W0 m ρ c) (Proc.devRef .tc main_v3) = _
  entry_read
  funext x
  pointwise
  exact congrArg _ (congrArg ix1 (Subsingleton.elim (α := Fin 1) _ _))

/-- The batch entry of block `t`. -/
def entryOf (t : Fin 64) : Fin 16 := ⟨t.val / 4, by omega⟩

/-- The tile at place `n` of block `t`. -/
def tileOf (t : Fin 64) (n : Fin 1024) : Fin 4096 := ⟨t.val % 4 * 1024 + n.val, by omega⟩

/-- A grid point as a block number. -/
abbrev blockOf (t : Fin cfg0.N) : Fin 64 := ⟨t.val, lt_of_lt_of_eq t.isLt N_0⟩

/-- A point's block of argument 0: 1024 tiles of one batch entry. -/
theorem block_0 (c : Dev nD) (t : Fin cfg0.N) (n : Fin 1024) (d : Fin 2048) :
    iblk0 (V1 m ρ) c 0 t (ix3 0 n d)
      = m ((c : Thread nD τ).loc main_arg0) (ix3 (entryOf (blockOf t)) (tileOf (blockOf t) n) d) := by
  unfold entryOf tileOf
  have i := (index_in t).1
  blk_ext [iblk0, i]

/-- A point's block of argument 2: 1024 tiles of one batch entry. -/
theorem block_1 (c : Dev nD) (t : Fin cfg0.N) (n : Fin 1024) (d : Fin 1024) :
    iblk0 (V1 m ρ) c 1 t (ix3 0 n d)
      = m ((c : Thread nD τ).loc main_arg2) (ix3 (entryOf (blockOf t)) (tileOf (blockOf t) n) d) := by
  unfold entryOf tileOf
  have i := (index_in t).2.1
  blk_ext [iblk0, i]

/-- A point reads argument 4 whole. -/
theorem block_2 (c : Dev nD) (t : Fin cfg0.N) (d : Fin 2048) (h : Fin 64) :
    iblk0 (V1 m ρ) c 2 t (ix2 d h) = m ((c : Thread nD τ).loc main_arg4) (ix2 d h) := by
  have i := (index_in t).2.2.1
  blk_ext [iblk0, i]

/-- A point reads argument 5 whole, as a row. -/
theorem block_3 (c : Dev nD) (t : Fin cfg0.N) (h : Fin 64) :
    iblk0 (V1 m ρ) c 3 t (ix2 0 h) = m ((c : Thread nD τ).loc main_arg5) (ix1 h) := by
  have i := (index_in t).2.2.2.1
  unfold iblk0
  show V1 m ρ c main_v0 _ = _
  rw [entry_v0]
  blk_ext [iblk0, i]

/-- A point reads argument 6 whole. -/
theorem block_4 (c : Dev nD) (t : Fin cfg0.N) (h : Fin 64) (z : Fin 1) :
    iblk0 (V1 m ρ) c 4 t (ix2 h z) = m ((c : Thread nD τ).loc main_arg6) (ix2 h z) := by
  have i := (index_in t).2.2.2.2.1
  blk_ext [iblk0, i]

/-- A point reads argument 7 whole, as a row. -/
theorem block_5 (c : Dev nD) (t : Fin cfg0.N) (z : Fin 1) :
    iblk0 (V1 m ρ) c 5 t (ix2 0 z) = m ((c : Thread nD τ).loc main_arg7) (ix1 z) := by
  have i := (index_in t).2.2.2.2.2.1
  unfold iblk0
  show V1 m ρ c main_v1 _ = _
  rw [entry_v1]
  blk_ext [iblk0, i]

/-- A point reads argument 8 whole. -/
theorem block_6 (c : Dev nD) (t : Fin cfg0.N) (d : Fin 1024) (h : Fin 64) :
    iblk0 (V1 m ρ) c 6 t (ix2 d h) = m ((c : Thread nD τ).loc main_arg8) (ix2 d h) := by
  have i := (index_in t).2.2.2.2.2.2.1
  blk_ext [iblk0, i]

/-- A point reads argument 9 whole, as a row. -/
theorem block_7 (c : Dev nD) (t : Fin cfg0.N) (h : Fin 64) :
    iblk0 (V1 m ρ) c 7 t (ix2 0 h) = m ((c : Thread nD τ).loc main_arg9) (ix1 h) := by
  have i := (index_in t).2.2.2.2.2.2.2.1
  unfold iblk0
  show V1 m ρ c main_v2 _ = _
  rw [entry_v2]
  blk_ext [iblk0, i]

/-- A point reads argument 10 whole. -/
theorem block_8 (c : Dev nD) (t : Fin cfg0.N) (h : Fin 64) (z : Fin 1) :
    iblk0 (V1 m ρ) c 8 t (ix2 h z) = m ((c : Thread nD τ).loc main_arg10) (ix2 h z) := by
  have i := (index_in t).2.2.2.2.2.2.2.2.1
  blk_ext [iblk0, i]

/-- A point reads argument 11 whole, as a row. -/
theorem block_9 (c : Dev nD) (t : Fin cfg0.N) (z : Fin 1) :
    iblk0 (V1 m ρ) c 9 t (ix2 0 z) = m ((c : Thread nD τ).loc main_arg11) (ix1 z) := by
  have i := (index_in t).2.2.2.2.2.2.2.2.2
  unfold iblk0
  show V1 m ρ c main_v3 _ = _
  rw [entry_v3]
  blk_ext [iblk0, i]

/-! ## The two arrays of scores -/

/-- The first scores from the launch contents. -/
def firstScore (c : Dev nD) (r : Fin 16) (n : Fin 4096) : EReal :=
  score (fun d : Fin 2048 => m ((c : Thread nD τ).loc main_arg0) (ix3 r n d))
    (fun d h => m ((c : Thread nD τ).loc main_arg4) (ix2 d h)) (fun h => m ((c : Thread nD τ).loc main_arg5) (ix1 h))
    (fun h z => m ((c : Thread nD τ).loc main_arg6) (ix2 h z)) (fun z => m ((c : Thread nD τ).loc main_arg7) (ix1 z))

/-- The second scores from the launch contents. -/
def secondScore (c : Dev nD) (r : Fin 16) (n : Fin 4096) : EReal :=
  score (fun d : Fin 1024 => m ((c : Thread nD τ).loc main_arg2) (ix3 r n d))
    (fun d h => m ((c : Thread nD τ).loc main_arg8) (ix2 d h)) (fun h => m ((c : Thread nD τ).loc main_arg9) (ix1 h))
    (fun h z => m ((c : Thread nD τ).loc main_arg10) (ix2 h z)) (fun z => m ((c : Thread nD τ).loc main_arg11) (ix1 z))

/-- The scoring kernel's first result. -/
theorem arr_first (c : Dev nD) : (dat0 (V1 m ρ) c).arrAt 10 cfg0.N
    = fun j : S64x1x1024.Idx => firstScore m c (entryOf (j 0)) (tileOf (j 0) (j 2)) := by
  refine (dat0 (V1 m ρ) c).arrAt_eq_of_covers 10 _ (by decide +kernel) fun t hf y => ?_
  obtain ⟨k, rfl⟩ : ∃ k : Fin 1024, y = (ix3 0 0 k : S1x1x1024.Idx) := by
    refine ⟨y 2, (eq_ix3 (y : S1x1x1024.Idx)).trans ?_⟩
    congr 1 <;> exact Subsingleton.elim (α := Fin 1) _ _
  have e : (win0_10.blk t).view.emb (ix3 0 0 k : S1x1x1024.Idx) = (ix3 (blockOf t) 0 k : S64x1x1024.Idx) := by
    have i := (index_out t).1
    blk_ext [i]
  show (dat0 (V1 m ρ) c).after 10 t (ix3 0 0 k : S1x1x1024.Idx) = firstScore m c (entryOf ((win0_10.blk t).view.emb (ix3 0 0 k : S1x1x1024.Idx) 0))
    (tileOf ((win0_10.blk t).view.emb (ix3 0 0 k : S1x1x1024.Idx) 0) ((win0_10.blk t).view.emb (ix3 0 0 k : S1x1x1024.Idx) 2))
  rw [e, after0_10]
  frame_out
  refine (first_apply _ _ _ _ _ k).trans ?_
  simp only [block_0, block_2, block_3, block_4, block_5]
  rfl

/-- The scoring kernel's second result. -/
theorem arr_second (c : Dev nD) : (dat0 (V1 m ρ) c).arrAt 11 cfg0.N
    = fun j : S64x1x1024.Idx => secondScore m c (entryOf (j 0)) (tileOf (j 0) (j 2)) := by
  refine (dat0 (V1 m ρ) c).arrAt_eq_of_covers 11 _ (by decide +kernel) fun t hf y => ?_
  obtain ⟨k, rfl⟩ : ∃ k : Fin 1024, y = (ix3 0 0 k : S1x1x1024.Idx) := by
    refine ⟨y 2, (eq_ix3 (y : S1x1x1024.Idx)).trans ?_⟩
    congr 1 <;> exact Subsingleton.elim (α := Fin 1) _ _
  have e : (win0_11.blk t).view.emb (ix3 0 0 k : S1x1x1024.Idx) = (ix3 (blockOf t) 0 k : S64x1x1024.Idx) := by
    have i := (index_out t).2
    blk_ext [i]
  show (dat0 (V1 m ρ) c).after 11 t (ix3 0 0 k : S1x1x1024.Idx) = secondScore m c (entryOf ((win0_11.blk t).view.emb (ix3 0 0 k : S1x1x1024.Idx) 0))
    (tileOf ((win0_11.blk t).view.emb (ix3 0 0 k : S1x1x1024.Idx) 0) ((win0_11.blk t).view.emb (ix3 0 0 k : S1x1x1024.Idx) 2))
  rw [e, after0_11]
  frame_out
  refine (second_apply _ _ _ _ _ k).trans ?_
  simp only [block_1, block_6, block_7, block_8, block_9]
  rfl

/-! ## The scores as the extraction kernel reads them -/

/-- The first scores at the extraction kernel's entry. -/
theorem entry_v5 (c : Dev nD) (r : Fin 16) (n : Fin 4096) :
    V3 m ρ c main_v5 (ix2 r n : S16x4096.Idx) = firstScore m c r n := by
  show StableHlo.after hostOps1 (W2 m ρ c) (Proc.devRef .tc main_v5) (ix2 r n : S16x4096.Idx) = _
  entry_read
  pointwise
  refine (congrFun ((W2_arr m ρ c 10).trans (arr_first m ρ c)) _).trans ?_
  congr 1
  · exact Fin.ext (show (r.val * 4 + n.val / 1024) / 4 = r.val by omega)
  · exact Fin.ext (show (r.val * 4 + n.val / 1024) % 4 * 1024 + n.val % 1024 = n.val by omega)

/-- The second scores at the extraction kernel's entry. -/
theorem entry_v6 (c : Dev nD) (r : Fin 16) (n : Fin 4096) :
    V3 m ρ c main_v6 (ix2 r n : S16x4096.Idx) = secondScore m c r n := by
  show StableHlo.after hostOps1 (W2 m ρ c) (Proc.devRef .tc main_v6) (ix2 r n : S16x4096.Idx) = _
  entry_read
  pointwise
  refine (congrFun ((W2_arr m ρ c 11).trans (arr_second m ρ c)) _).trans ?_
  congr 1
  · exact Fin.ext (show (r.val * 4 + n.val / 1024) / 4 = r.val by omega)
  · exact Fin.ext (show (r.val * 4 + n.val / 1024) % 4 * 1024 + n.val % 1024 = n.val by omega)

end Cert.Proof.Scores

end
-- ==== Proof.Kernel.lean ====
/-
  What the kernel leaves: its two results as functions of the scores, and the run of the whole program with them.
-/
module

public import proofs.«01_k».proof.Proof.Scores
public import Idealize.ShloMosaic.Lib.Pipeline.ReadBack

@[expose] public section

set_option maxRecDepth 16384

noncomputable section

namespace Cert.Proof.Kernel

open Idealize.ShloMosaic Idealize.ShloMosaic.TcCoe Idealize.SL.Sem Cert.KernelIdeal Cert.KernelIdeal.Gen
open Idealize.ShloMosaic.Pointwise Idealize.ShloMosaic.Pipeline
open Cert.Proof.Extract Cert.Proof.Scores

/-! ## The extraction kernel's body -/

section Body

variable (V : (c : Dev nD) → (b : Ref sig .tc) → Buf (Elt Ideal) ((c : Thread nD τ).loc b))

/-- The body stores the extreme scores of its two inputs. -/
theorem outs_ext (c : Dev nD) (t : Fin cfg1.N) : (outsAt1 V c t).2
    = k1_pay12 (swept (iblk1 V c 0 t) (iblk1 V c 1 t)).2.1 (swept (iblk1 V c 0 t) (iblk1 V c 1 t)).2.2 := by
  unfold outsAt1 swept
  dsimp only
  funext y
  frame_out
  simp only [read_unread_whole]

/-- The body stores the prediction from them. -/
theorem outs_out (c : Dev nD) (t : Fin cfg1.N) : (outsAt1 V c t).1
    = k1_pay1 (k1_pay13 (swept (iblk1 V c 0 t) (iblk1 V c 1 t)).2.1 (swept (iblk1 V c 0 t) (iblk1 V c 1 t)).2.2 (iblk1 V c 2 t))
        (k1_pay14 (iblk1 V c 3 t)) (iblk1 V c 4 t) (iblk1 V c 5 t) (iblk1 V c 6 t) (iblk1 V c 7 t) := by
  unfold outsAt1 swept
  dsimp only
  funext y
  frame_out
  simp only [read_unread_whole]

end Body

/-! ## What the body reads -/

/-- Every window of the extraction kernel is its whole array. -/
theorem index_whole : ∀ t : Fin grid1.N,
    win1_0.index t = ![0, 0] ∧ win1_1.index t = ![0, 0] ∧ win1_2.index t = ![0, 0] ∧ win1_3.index t = ![0, 0]
      ∧ win1_4.index t = ![0, 0] ∧ win1_5.index t = ![0, 0] ∧ win1_6.index t = ![0, 0] ∧ win1_7.index t = ![0, 0] := by
  decide +kernel

variable (m : (ℓ : Loc nD τ sig) → Buf (Elt Ideal) ℓ) (ρ : Dev nD → PrngReg)

/-- The first layer's bias row at the extraction kernel's entry. -/
theorem entry_v7 (c : Dev nD) :
    V3 m ρ c main_v7 = fun x : S1x128.Idx => m ((c : Thread nD τ).loc main_arg13) (ix1 (x 1)) := by
  show StableHlo.after hostOps1 (W2 m ρ c) (Proc.devRef .tc main_v7) = _
  entry_read
  rw [W2_args m ρ c main_arg13 (by decide)]
  funext x
  pointwise

/-- The second layer's bias row at the extraction kernel's entry. -/
theorem entry_v8 (c : Dev nD) :
    V3 m ρ c main_v8 = fun x : S1x64.Idx => m ((c : Thread nD τ).loc main_arg15) (ix1 (x 1)) := by
  show StableHlo.after hostOps1 (W2 m ρ c) (Proc.devRef .tc main_v8) = _
  entry_read
  rw [W2_args m ρ c main_arg15 (by decide)]
  funext x
  pointwise

/-- The last layer's bias at the extraction kernel's entry. -/
theorem entry_v9 (c : Dev nD) :
    V3 m ρ c main_v9 = fun x : S1x1.Idx => m ((c : Thread nD τ).loc main_arg17) (ix1 (x 1)) := by
  show StableHlo.after hostOps1 (W2 m ρ c) (Proc.devRef .tc main_v9) = _
  entry_read
  rw [W2_args m ρ c main_arg17 (by decide)]
  funext x
  pointwise
  exact congrArg _ (congrArg ix1 (Subsingleton.elim (α := Fin 1) _ _))

/-- The extraction kernel reads the first scores, batch entry by tile. -/
theorem read_0 (c : Dev nD) (t : Fin cfg1.N) (r : Fin 16) (n : Fin 4096) :
    iblk1 (V3 m ρ) c 0 t (ix2 r n) = firstScore m c r n := by
  rw [← entry_v5 m ρ]
  have i := (index_whole t).1
  blk_ext [iblk1, i]

/-- The extraction kernel reads the second scores, batch entry by tile. -/
theorem read_1 (c : Dev nD) (t : Fin cfg1.N) (r : Fin 16) (n : Fin 4096) :
    iblk1 (V3 m ρ) c 1 t (ix2 r n) = secondScore m c r n := by
  rw [← entry_v6 m ρ]
  have i := (index_whole t).2.1
  blk_ext [iblk1, i]

/-- The extraction kernel reads argument 12, the first prediction layer's weights. -/
theorem read_2 (c : Dev nD) (t : Fin cfg1.N) (i : Fin 800) (j : Fin 128) :
    iblk1 (V3 m ρ) c 2 t (ix2 i j) = m ((c : Thread nD τ).loc main_arg12) (ix2 i j) := by
  rw [← W3_args m ρ c main_arg12 (by decide)]
  have i := (index_whole t).2.2.1
  blk_ext [iblk1, i]

/-- The extraction kernel reads argument 13, the first prediction layer's bias. -/
theorem read_3 (c : Dev nD) (t : Fin cfg1.N) (j : Fin 128) :
    iblk1 (V3 m ρ) c 3 t (ix2 0 j) = m ((c : Thread nD τ).loc main_arg13) (ix1 j) := by
  have i := (index_whole t).2.2.2.1
  unfold iblk1
  show V3 m ρ c main_v7 _ = _
  rw [entry_v7]
  blk_ext [iblk1, i]

/-- The extraction kernel reads argument 14, the second prediction layer's weights. -/
theorem read_4 (c : Dev nD) (t : Fin cfg1.N) (i : Fin 128) (j : Fin 64) :
    iblk1 (V3 m ρ) c 4 t (ix2 i j) = m ((c : Thread nD τ).loc main_arg14) (ix2 i j) := by
  rw [← W3_args m ρ c main_arg14 (by decide)]
  have i := (index_whole t).2.2.2.2.1
  blk_ext [iblk1, i]

/-- The extraction kernel reads argument 15, the second prediction layer's bias. -/
theorem read_5 (c : Dev nD) (t : Fin cfg1.N) (j : Fin 64) :
    iblk1 (V3 m ρ) c 5 t (ix2 0 j) = m ((c : Thread nD τ).loc main_arg15) (ix1 j) := by
  have i := (index_whole t).2.2.2.2.2.1
  unfold iblk1
  show V3 m ρ c main_v8 _ = _
  rw [entry_v8]
  blk_ext [iblk1, i]

/-- The extraction kernel reads argument 16, the last prediction layer's weights. -/
theorem read_6 (c : Dev nD) (t : Fin cfg1.N) (i : Fin 64) (j : Fin 1) :
    iblk1 (V3 m ρ) c 6 t (ix2 i j) = m ((c : Thread nD τ).loc main_arg16) (ix2 i j) := by
  rw [← W3_args m ρ c main_arg16 (by decide)]
  have i := (index_whole t).2.2.2.2.2.2.1
  blk_ext [iblk1, i]

/-- The extraction kernel reads argument 17, the last prediction layer's bias. -/
theorem read_7 (c : Dev nD) (t : Fin cfg1.N) (j : Fin 1) :
    iblk1 (V3 m ρ) c 7 t (ix2 0 j) = m ((c : Thread nD τ).loc main_arg17) (ix1 j) := by
  have i := (index_whole t).2.2.2.2.2.2.2
  unfold iblk1
  show V3 m ρ c main_v9 _ = _
  rw [entry_v9]
  blk_ext [iblk1, i]

/-! ## The two results -/

/-- No score is infinite. -/
def ScoresReal (c : Dev nD) : Prop :=
  (∀ r n, firstScore m c r n ≠ ⊥ ∧ firstScore m c r n ≠ ⊤) ∧ ∀ r n, secondScore m c r n ≠ ⊥ ∧ secondScore m c r n ≠ ⊤

/-- The extreme scores of a batch entry. -/
def extremeRow (c : Dev nD) (r : Fin 16) (n : Fin 800) : EReal := extremes (firstScore m c r) (secondScore m c r) n

/-- The prediction of a batch entry. -/
def prediction (c : Dev nD) (r : Fin 16) : EReal :=
  predict (extremeRow m c r) (fun i j => m ((c : Thread nD τ).loc main_arg12) (ix2 i j))
    (fun j => m ((c : Thread nD τ).loc main_arg13) (ix1 j)) (fun i j => m ((c : Thread nD τ).loc main_arg14) (ix2 i j))
    (fun j => m ((c : Thread nD τ).loc main_arg15) (ix1 j)) (fun i j => m ((c : Thread nD τ).loc main_arg16) (ix2 i j))
    (fun j => m ((c : Thread nD τ).loc main_arg17) (ix1 j))

/-- The rows the body reads are the scores. -/
theorem rows_read (c : Dev nD) (t : Fin cfg1.N) :
    rows (iblk1 (V3 m ρ) c 0 t) = firstScore m c ∧ rows (iblk1 (V3 m ρ) c 1 t) = secondScore m c :=
  ⟨funext fun r => funext fun n => read_0 m ρ c t r n, funext fun r => funext fun n => read_1 m ρ c t r n⟩

/-- The extreme scores the body stores, in terms of the launch contents. -/
theorem outs_ext_apply (c : Dev nD) (h : ScoresReal m c) (t : Fin cfg1.N) (r : Fin 16) (n : Fin 800) :
    k1_pay12 (swept (iblk1 (V3 m ρ) c 0 t) (iblk1 (V3 m ρ) c 1 t)).2.1
      (swept (iblk1 (V3 m ρ) c 0 t) (iblk1 (V3 m ρ) c 1 t)).2.2 (ix2 r n) = extremeRow m c r n := by
  have e := rows_read m ρ c t
  rw [ext_apply _ _ (by rw [e.1]; exact h.1) (by rw [e.2]; exact h.2), e.1, e.2]
  rfl

/-- The extraction kernel's array of extreme scores. -/
theorem arr_ext (c : Dev nD) (h : ScoresReal m c) : (dat1 (V3 m ρ) c).arrAt 9 cfg1.N
    = fun j : S16x800.Idx => extremeRow m c (j 0) (j 1) := by
  refine (dat1 (V3 m ρ) c).arrAt_eq_of_after_last 9 t1_0 (by decide +kernel) _ fun j => ?_
  blk_simp
  obtain ⟨r, n, rfl⟩ : ∃ (r : Fin 16) (n : Fin 800), j = (ix2 r n : S16x800.Idx) := ⟨j 0, j 1, eq_ix2 (j : S16x800.Idx)⟩
  rw [after1_9, outs_ext]
  exact outs_ext_apply m ρ c h t1_0 r n

/-- The extraction kernel's array of predictions. -/
theorem arr_out (c : Dev nD) (h : ScoresReal m c) : (dat1 (V3 m ρ) c).arrAt 8 cfg1.N
    = fun j : S16x1.Idx => prediction m c (j 0) := by
  refine (dat1 (V3 m ρ) c).arrAt_eq_of_after_last 8 t1_0 (by decide +kernel) _ fun j => ?_
  blk_simp
  obtain ⟨r, z, rfl⟩ : ∃ (r : Fin 16) (z : Fin 1), j = (ix2 r z : S16x1.Idx) := ⟨j 0, j 1, eq_ix2 (j : S16x1.Idx)⟩
  rw [after1_8, outs_out]
  refine (predict_apply _ _ _ _ _ _ _ _ r z).trans ?_
  simp only [outs_ext_apply m ρ c h, read_2, read_3, read_4, read_5, read_6, read_7]
  rfl

/-- The first result at the end of the run. -/
theorem final_out (c : Dev nD) (h : ScoresReal m c) :
    W5 m ρ c (Proc.devRef .tc main_v10_0) = fun j : S16x1.Idx => prediction m c (j 0) :=
  (W5_of m ρ c main_v10_0 (by decide)).trans ((W4_arr m ρ c 8).trans (arr_out m ρ c h))

/-- The second result at the end of the run. -/
theorem final_ext (c : Dev nD) (h : ScoresReal m c) :
    W5 m ρ c (Proc.devRef .tc main_v11) = fun j : S16x800x1.Idx => extremeRow m c (j 0) (j 1) := by
  show StableHlo.after hostOps2 (W4 m ρ c) (Proc.devRef .tc main_v11) = _
  entry_read
  funext x
  pointwise
  exact (congrFun ((W4_arr m ρ c 9).trans (arr_ext m ρ c h)) _).trans rfl

end Cert.Proof.Kernel

end
-- ==== Proof.Given.lean ====
/-
  What the precondition gives: no tile is masked, and every score of the idealized kernel is a real number. A score is a
  sum of sigmoids times the second layer's weights plus its bias, and a sigmoid is a real number whatever its argument.
-/
module

public import proofs.«01_k».proof.Proof.Kernel
public import proofs.«01_k».proof.Proof.Frames
public import Idealize.ShloMosaic.Lib.ReduceAll

@[expose] public section

set_option maxRecDepth 16384

noncomputable section

namespace Cert.Proof.Given

open Idealize.ShloMosaic Idealize.ShloMosaic.TcCoe Idealize.SL.Sem
open Idealize.ShloMosaic.Pointwise
open Cert.Proof.Extract (layer)
open Cert.Proof.Scores Cert.Proof.Kernel

/-! ## Real numbers -/

/-- An extended real that is a real number. -/
def IsReal (x : EReal) : Prop := x ≠ ⊥ ∧ x ≠ ⊤

/-- A real number is real. -/
theorem isReal_coe (x : ℝ) : IsReal (x : EReal) := ⟨EReal.coe_ne_bot x, EReal.coe_ne_top x⟩

/-- A real extended real is some real number. -/
theorem IsReal.eq_coe {x : EReal} (h : IsReal x) : ∃ y : ℝ, x = (y : EReal) := ⟨x.toReal, (EReal.coe_toReal h.2 h.1).symm⟩

/-- The sum of two real numbers is real. -/
theorem IsReal.add {x y : EReal} (hx : IsReal x) (hy : IsReal y) : IsReal (x + y) := by
  obtain ⟨a, rfl⟩ := hx.eq_coe
  obtain ⟨b, rfl⟩ := hy.eq_coe
  exact isReal_coe (a + b)

/-- The product of two real numbers is real. -/
theorem IsReal.mul {x y : EReal} (hx : IsReal x) (hy : IsReal y) : IsReal (x * y) := by
  obtain ⟨a, rfl⟩ := hx.eq_coe
  obtain ⟨b, rfl⟩ := hy.eq_coe
  exact isReal_coe (a * b)

/-- A sum of real numbers is one. -/
theorem isReal_sum {I : Type} (s : Finset I) (f : I → EReal) (h : ∀ i, IsReal (f i)) : IsReal (∑ i ∈ s, f i) := by
  classical
  induction s using Finset.induction_on with
  | empty => exact isReal_coe 0
  | insert a s ha ih => rw [Finset.sum_insert ha]; exact (h a).add ih

/-- A sigmoid is a real number, at the infinities too. -/
theorem isReal_logistic (x : EReal) : IsReal (Idealize.ShloMosaic.Ideal.logistic x) := by
  induction x using EReal.rec with
  | bot => rw [Idealize.ShloMosaic.Ideal.logistic_bot]; exact isReal_coe 0
  | coe r => rw [Idealize.ShloMosaic.Ideal.logistic_coe]; exact isReal_coe _
  | top => rw [Idealize.ShloMosaic.Ideal.logistic_top]; exact isReal_coe 1

/-- A layer over real inputs, weights and biases gives real numbers. -/
theorem isReal_layer {I J : Nat} (z : Fin I → EReal) (W : Fin I → Fin J → EReal) (b : Fin J → EReal) (j : Fin J)
    (hz : ∀ i, IsReal (z i)) (hW : ∀ i j, IsReal (W i j)) (hb : ∀ j, IsReal (b j)) : IsReal (layer z W b j) :=
  (isReal_sum _ _ fun i => (hz i).mul (hW i j)).add (hb j)

/-- A score is a real number when the second layer's weights and bias are. -/
theorem isReal_score {D : Nat} (x : Fin D → EReal) (W1 : Fin D → Fin 64 → EReal) (b1 : Fin 64 → EReal) (W2 : Fin 64 → Fin 1 → EReal)
    (b2 : Fin 1 → EReal) (hW : ∀ i j, IsReal (W2 i j)) (hb : ∀ j, IsReal (b2 j)) : IsReal (score x W1 b1 W2 b2) :=
  isReal_layer _ _ _ _ (fun _ => isReal_logistic _) hW hb

/-- The pattern of the precondition's bound is `+∞`. -/
theorem ofBits_inf : Idealize.ShloMosaic.Ideal.ofBits FTy.f32 0x7F800000#32 = ⊤ := by
  simp [Idealize.ShloMosaic.Ideal.ofBits, Idealize.ShloMosaic.Ideal.ieee]

/-- A magnitude below `+∞` is a real number's. -/
theorem isReal_of_bit (x : EReal) (h : BitVec.ofBool (decide (max x (-x) < ⊤)) = 1#1) : IsReal x := by
  have h : max x (-x) < ⊤ := by
    by_contra g
    rw [decide_eq_false g] at h
    exact absurd h (by decide)
  obtain ⟨h1, h2⟩ := max_lt_iff.1 h
  refine ⟨?_, h1.ne⟩
  rintro rfl
  exact h2.ne EReal.neg_bot

/-! ## The precondition read -/

section Function

open Cert.Pre_unmasked_with_finite_heads

/-- An array whose magnitudes are all below `+∞` holds real numbers. -/
theorem isReal_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu
      = fun _ => 1#1) (i : s.Idx) : IsReal (x i) := by
  have hs : Subsingleton S_.Idx := ⟨fun a b => funext fun k => k.elim0⟩
  have h := Host.reduce_andi_all _ _ _ _ ix0 (congrFun h ix0) i
  refine isReal_of_bit _ ?_
  rw [← ofBits_inf]
  exact h

/-- A mask whose complement is all ones is zero. -/
theorem zero_of_all {s : Shape} {axes : List (Fin s.rank)} (x : IVec s 1) (hr : s.ReducesTo axes S_) (hu : 0 < S_.numel)
    (h : Host.reduce IntOp.andi (noti x) (constantI S_ 1 1#1) hr hu = fun _ => 1#1) (i : s.Idx) : x i = 0#1 := by
  have hs : Subsingleton S_.Idx := ⟨fun a b => funext fun k => k.elim0⟩
  have bit : ∀ y : BitVec 1, ~~~y = 1#1 → y = 0#1 := by decide
  exact bit _ (Host.reduce_andi_all _ _ _ _ ix0 (congrFun h ix0) i)

variable (a0 : FVec Ideal S16x4096x2048 .f32) (a1 : IVec S16x4096x1 1) (a2 : FVec Ideal S16x4096x1024 .f32) (a3 : IVec S16x4096x1 1)
  (a4 : FVec Ideal S2048x64 .f32) (a5 : FVec Ideal S64 .f32) (a6 : FVec Ideal S64x1 .f32) (a7 : FVec Ideal S1 .f32)
  (a8 : FVec Ideal S1024x64 .f32) (a9 : FVec Ideal S64 .f32) (a10 : FVec Ideal S64x1 .f32) (a11 : FVec Ideal S1 .f32)
  (a12 : FVec Ideal S800x128 .f32) (a13 : FVec Ideal S128 .f32) (a14 : FVec Ideal S128x64 .f32) (a15 : FVec Ideal S64 .f32)
  (a16 : FVec Ideal S64x1 .f32) (a17 : FVec Ideal S1 .f32)

/-- What the six bits of the precondition say of an entry of the arguments they look at. -/
theorem bits
    (h1 : (fn (F := Ideal) a0 a1 a2 a3 a4 a5 a6 a7 a8 a9 a10 a11 a12 a13 a14 a15 a16 a17).1 = fun _ => 1#1)
    (h2 : (fn (F := Ideal) a0 a1 a2 a3 a4 a5 a6 a7 a8 a9 a10 a11 a12 a13 a14 a15 a16 a17).2.1 = fun _ => 1#1)
    (h3 : (fn (F := Ideal) a0 a1 a2 a3 a4 a5 a6 a7 a8 a9 a10 a11 a12 a13 a14 a15 a16 a17).2.2.1 = fun _ => 1#1)
    (h4 : (fn (F := Ideal) a0 a1 a2 a3 a4 a5 a6 a7 a8 a9 a10 a11 a12 a13 a14 a15 a16 a17).2.2.2.1 = fun _ => 1#1)
    (h5 : (fn (F := Ideal) a0 a1 a2 a3 a4 a5 a6 a7 a8 a9 a10 a11 a12 a13 a14 a15 a16 a17).2.2.2.2.1 = fun _ => 1#1)
    (h6 : (fn (F := Ideal) a0 a1 a2 a3 a4 a5 a6 a7 a8 a9 a10 a11 a12 a13 a14 a15 a16 a17).2.2.2.2.2 = fun _ => 1#1) :
    a1 = (fun _ => 0#1) ∧ a3 = (fun _ => 0#1) ∧ (∀ i, IsReal (a6 i)) ∧ (∀ i, IsReal (a7 i)) ∧ (∀ i, IsReal (a10 i)) ∧ (∀ i, IsReal (a11 i)) := by
  unfold fn fn_part1 at h1 h2 h3 h4 h5 h6
  dsimp only at h1 h2 h3 h4 h5 h6
  exact ⟨funext (zero_of_all a1 _ _ h1), funext (zero_of_all a3 _ _ h2), isReal_of_all a6 _ _ _ h3, isReal_of_all a7 _ _ _ h4,
    isReal_of_all a10 _ _ _ h5, isReal_of_all a11 _ _ _ h6⟩

end Function

open Cert.KernelIdeal

variable (m : (ℓ : Loc nD τ sig) → Buf (Elt Ideal) ℓ) (hpre : Cert.Pre_KernelIdeal_unmasked_with_finite_heads m) (c : Dev nD)

include hpre

/-- No tile is masked, and the second layers' weights and biases are real. -/
theorem entries :
    m ((c : Thread nD τ).loc main_arg1) = (fun _ => 0#1 : IVec S16x4096x1 1)
    ∧ m ((c : Thread nD τ).loc main_arg3) = (fun _ => 0#1 : IVec S16x4096x1 1)
    ∧ (∀ i : S64x1.Idx, IsReal ((m ((c : Thread nD τ).loc main_arg6) : FVec Ideal S64x1 .f32) i))
    ∧ (∀ i : S1.Idx, IsReal ((m ((c : Thread nD τ).loc main_arg7) : FVec Ideal S1 .f32) i))
    ∧ (∀ i : S64x1.Idx, IsReal ((m ((c : Thread nD τ).loc main_arg10) : FVec Ideal S64x1 .f32) i))
    ∧ (∀ i : S1.Idx, IsReal ((m ((c : Thread nD τ).loc main_arg11) : FVec Ideal S1 .f32) i)) := by
  obtain ⟨h1, h2, h3, h4, h5, h6⟩ := hpre c
  exact bits _ _ _ _ _ _ _ _ _ _ _ _ _ _ _ _ _ _ h1 h2 h3 h4 h5 h6

/-- The scores are real numbers. -/
theorem scoresReal : ScoresReal m c := by
  obtain ⟨-, -, h6, h7, h10, h11⟩ := entries m hpre c
  exact ⟨fun r n => isReal_score _ _ _ _ _ (fun i j => h6 _) (fun j => h7 _), fun r n => isReal_score _ _ _ _ _ (fun i j => h10 _) (fun j => h11 _)⟩

end Cert.Proof.Given

end
-- ==== Proof.KernelRun.lean ====
/-
  The run of the whole kernel program: it ends with its two results at the last boundary's contents and its arguments
  as launched.
-/
module

public import proofs.«01_k».proof.Proof.Gen.KernelIdeal.Frame

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the two results at the last boundary's contents and the arguments as launched. -/
theorem run : θ_run defs (onTc (τ := τ) (main (F := F))) ⟨m, fun _ => 0, ρ⟩ (fun r => ∀ c : Dev nD,
      r.2.mem ((c.tc : Thread nD τ).loc main_v10_0) = W5 m ρ c (Proc.devRef .tc main_v10_0)
      ∧ r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v10_0 (by decide)), h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c)⟩)

end Cert.Proof.KernelRun

end
-- ==== Proof.Reference.lean ====
/-
  The reference's two results as functions of the scores: the extreme scores, and the prediction from them. The results
  are read in stages, each an array function of the stage before: the scores, a row's greatest entries with their
  positions, the scores taken at a list of positions, the four lists put together, and the three layers on top.
-/
module

public import proofs.«01_k».proof.Proof.Scores
public import proofs.«01_k».proof.Proof.Gen.ReferenceIdeal.Run

@[expose] public section

set_option maxRecDepth 16384

noncomputable section

namespace Cert.Proof.Reference

open Idealize.ShloMosaic Idealize.ShloMosaic.TcCoe Idealize.SL.Sem Cert.ReferenceIdeal Cert.ReferenceIdeal.Gen
open Idealize.ShloMosaic.Pointwise
open Cert.Proof.TopMath (before pick)
open Cert.Proof.Extract (layer rank extremes predict ofBits_neg_inf)
open Cert.Proof.Scores (score)

/-! ## The stages -/

/-- The sigmoid of an array, as the reference spells it. -/
def sigmoid64 (x : FVec Ideal S16x4096x64 .f32) : FVec Ideal S16x4096x64 .f32 :=
  Host.divf (broadcastInDim S16x4096x64 ![] bcast_S_S16x4096x64 (constant S_ .f32 0x3F800000#32))
    (addf (broadcastInDim S16x4096x64 ![] bcast_S_S16x4096x64 (constant S_ .f32 0x3F800000#32)) (Host.exp (Host.negf x)))

/-- The hidden layer before its sigmoid, with the masked tiles at `-∞`. -/
def hidden (mask : IVec S16x4096x1 1) (z : FVec Ideal S16x4096x64 .f32) (b1 : FVec Ideal S64 .f32) :
    FVec Ideal S16x4096x64 .f32 :=
  select (broadcastInDim S16x4096x64 ![0, 1, 2] bcast_S16x4096x1_S16x4096x64_0_1_2 mask)
    (broadcastInDim S16x4096x64 ![] bcast_S_S16x4096x64 (id (constant S_ .f32 0xFF800000#32)))
    (addf z (broadcastInDim S16x4096x64 ![0, 1, 2] bcast_S1x1x64_S16x4096x64_0_1_2 (broadcastInDim S1x1x64 ![2] bcast_S64_S1x1x64_2 b1)))

/-- The scores from the hidden layer. -/
def scored (h : FVec Ideal S16x4096x64 .f32) (W2 : FVec Ideal S64x1 .f32) (b2 : FVec Ideal S1 .f32) : FVec Ideal S16x4096x1 .f32 :=
  addf (Host.dotGeneral dot_S16x4096x64_S64x1_S16x4096x1_2_0_01_1_n_n none (sigmoid64 h) W2)
    (broadcastInDim S16x4096x1 ![0, 1, 2] bcast_S1x1x1_S16x4096x1_0_1_2 (broadcastInDim S1x1x1 ![2] bcast_S1_S1x1x1_2 b2))

/-- The first scores. -/
def scoresA (x : FVec Ideal S16x4096x2048 .f32) (mask : IVec S16x4096x1 1) (W1 : FVec Ideal S2048x64 .f32) (b1 : FVec Ideal S64 .f32)
    (W2 : FVec Ideal S64x1 .f32) (b2 : FVec Ideal S1 .f32) : FVec Ideal S16x4096x1 .f32 :=
  scored (hidden mask (Host.dotGeneral dot_S16x4096x2048_S2048x64_S16x4096x64_2_0_01_1_n_n none x W1) b1) W2 b2

/-- The second scores. -/
def scoresB (x : FVec Ideal S16x4096x1024 .f32) (mask : IVec S16x4096x1 1) (W1 : FVec Ideal S1024x64 .f32) (b1 : FVec Ideal S64 .f32)
    (W2 : FVec Ideal S64x1 .f32) (b2 : FVec Ideal S1 .f32) : FVec Ideal S16x4096x1 .f32 :=
  scored (hidden mask (Host.dotGeneral dot_S16x4096x1024_S1024x64_S16x4096x64_2_0_01_1_n_n none x W1) b1) W2 b2

/-- The hundred greatest of each row, the masked tiles at `-∞`, with their positions. -/
def greatest (mask : IVec S16x4096x1 1) (s : FVec Ideal S16x4096x1 .f32) : FVec Ideal S16x1x100 .f32 × IVec S16x1x100 32 :=
  Host.topK S16x1x100 2 (FloatOps.cmpfTotal .gt) (transpose S16x1x4096 [0, 2, 1]
    (select mask (broadcastInDim S16x4096x1 ![] bcast_S_S16x4096x1 (id (constant S_ .f32 0xFF800000#32))) s)
    transposes_S16x4096x1_S16x1x4096_0_2_1) sliceFits_S16x1x4096_S16x1x100

/-- The hundred greatest of each row's negative, the masked tiles at `-∞`, with their positions. -/
def least (mask : IVec S16x4096x1 1) (s : FVec Ideal S16x4096x1 .f32) : FVec Ideal S16x1x100 .f32 × IVec S16x1x100 32 :=
  Host.topK S16x1x100 2 (FloatOps.cmpfTotal .gt) (Host.negf (transpose S16x1x4096 [0, 2, 1]
    (select mask (broadcastInDim S16x4096x1 ![] bcast_S_S16x4096x1 (id (constant S_ .f32 0x7F800000#32))) s)
    transposes_S16x4096x1_S16x1x4096_0_2_1)) sliceFits_S16x1x4096_S16x1x100

/-- A row's greatest scores, then its least. -/
def chosen (mask : IVec S16x4096x1 1) (s : FVec Ideal S16x4096x1 .f32) : FVec Ideal S16x200x1 .f32 :=
  concatenate S16x200x1 1 [⟨S16x100x1, transpose S16x100x1 [0, 2, 1] (greatest mask s).1 transposes_S16x1x100_S16x100x1_0_2_1⟩,
    ⟨S16x100x1, transpose S16x100x1 [0, 2, 1] (Host.negf (least mask s).1) transposes_S16x1x100_S16x100x1_0_2_1⟩]
    concatenates_S16x100x1_S16x100x1_S16x200x1_d1

/-- Their positions. -/
def places (mask : IVec S16x4096x1 1) (s : FVec Ideal S16x4096x1 .f32) : IVec S16x200x1 32 :=
  concatenate S16x200x1 1 [⟨S16x100x1, transpose S16x100x1 [0, 2, 1] (greatest mask s).2 transposes_S16x1x100_S16x100x1_0_2_1⟩,
    ⟨S16x100x1, transpose S16x100x1 [0, 2, 1] (least mask s).2 transposes_S16x1x100_S16x100x1_0_2_1⟩]
    concatenates_S16x100x1_S16x100x1_S16x200x1_d1

/-- Positions with a negative one counted from the end. -/
def wrapped (p : IVec S16x200x1 32) : IVec S16x200x1 32 :=
  select (cmpi .slt p (broadcastInDim S16x200x1 ![] bcast_S_S16x200x1 (constantI S_ 32 0#32)))
    (addi p (broadcastInDim S16x200x1 ![] bcast_S_S16x200x1 (constantI S_ 32 4096#32))) p

/-- The bit of each position: it lies in the row. -/
def inRow (p : IVec S16x200x1 32) : IVec S16x200 1 :=
  Host.reduce IntOp.andi (andi (cmpi .sge p (broadcastInDim S16x200x1 ![] bcast_S_S16x200x1 (constantI S_ 32 0#32)))
    (cmpi .sle p (broadcastInDim S16x200x1 ![0, 1, 2] bcast_S1x1x1_S16x200x1_0_1_2
      (broadcastInDim S1x1x1 ![2] bcast_S1_S1x1x1_2 (constantI S1 32 4095#32))))) (constantI S_ 1 1#1)
    reducesTo_S16x200x1_S16x200_d2 h_S_

/-- The scores at the given positions of each row. -/
def taken (s : FVec Ideal S16x4096x1 .f32) (p : IVec S16x200x1 32) : FVec Ideal S16x200x1 .f32 :=
  select (broadcastInDim S16x200x1 ![0, 1] bcast_S16x200_S16x200x1_0_1 (inRow (wrapped p)))
    (Host.gather gather_S16x4096x1_S16x200x1_S16x200x1_2_1_0_0_1_2_111 s (wrapped p))
    (broadcastInDim S16x200x1 ![] bcast_S_S16x200x1 (constant S_ .f32 0x7FC00000#32))

/-- The four lists of extreme scores, in order. -/
def joined (maskA maskB : IVec S16x4096x1 1) (s t : FVec Ideal S16x4096x1 .f32) : FVec Ideal S16x800x1 .f32 :=
  concatenate S16x800x1 1 [⟨S16x200x1, chosen maskA s⟩, ⟨S16x200x1, taken s (places maskB t)⟩, ⟨S16x200x1, chosen maskB t⟩,
    ⟨S16x200x1, taken t (places maskA s)⟩] concatenates_S16x200x1_S16x200x1_S16x200x1_S16x200x1_S16x800x1_d1

/-- The three layers on top of the extreme scores. -/
def predicted (e : FVec Ideal S16x800x1 .f32) (W1 : FVec Ideal S800x128 .f32) (b1 : FVec Ideal S128 .f32) (W2 : FVec Ideal S128x64 .f32)
    (b2 : FVec Ideal S64 .f32) (W3 : FVec Ideal S64x1 .f32) (b3 : FVec Ideal S1 .f32) : FVec Ideal S16x1 .f32 :=
  shapeCast _ (addf (Host.dotGeneral dot_S16x1x64_S64x1_S16x1x1_2_0_01_1_n_n none (Host.divf (broadcastInDim S16x1x64 ![] bcast_S_S16x1x64 (constant S_ .f32 0x3F800000#32)) (addf (broadcastInDim S16x1x64 ![] bcast_S_S16x1x64 (constant S_ .f32 0x3F800000#32)) (Host.exp (Host.negf (addf (Host.dotGeneral dot_S16x1x128_S128x64_S16x1x64_2_0_01_1_n_n none (Host.divf (broadcastInDim S16x1x128 ![] bcast_S_S16x1x128 (constant S_ .f32 0x3F800000#32)) (addf (broadcastInDim S16x1x128 ![] bcast_S_S16x1x128 (constant S_ .f32 0x3F800000#32)) (Host.exp (Host.negf (addf (Host.dotGeneral dot_S16x1x800_S800x128_S16x1x128_2_0_01_1_n_n none (transpose S16x1x800 [0, 2, 1] e transposes_S16x800x1_S16x1x800_0_2_1) W1) (broadcastInDim S16x1x128 ![0, 1, 2] bcast_S1x1x128_S16x1x128_0_1_2 (broadcastInDim S1x1x128 ![2] bcast_S128_S1x1x128_2 b1))))))) W2) (broadcastInDim S16x1x64 ![0, 1, 2] bcast_S1x1x64_S16x1x64_0_1_2 (broadcastInDim S1x1x64 ![2] bcast_S64_S1x1x64_2 b2))))))) W3) (broadcastInDim S16x1x1 ![0, 1, 2] bcast_S1x1x1_S16x1x1_0_1_2 (broadcastInDim S1x1x1 ![2] bcast_S1_S1x1x1_2 b3))) shapeCasts_S16x1x1_S16x1

/-! ## The stages at an index -/

/-- One over one plus the exponential of the negative is the sigmoid. -/
theorem sigmoid_eq (x : EReal) :
    Idealize.ShloMosaic.Ideal.div 1 (1 + Idealize.ShloMosaic.Ideal.exp (-x)) = Idealize.ShloMosaic.Ideal.logistic x := rfl

/-- With no tile masked the scores are the layers' scores. -/
theorem scoresA_apply (x : FVec Ideal S16x4096x2048 .f32) (W1 : FVec Ideal S2048x64 .f32) (b1 : FVec Ideal S64 .f32)
    (W2 : FVec Ideal S64x1 .f32) (b2 : FVec Ideal S1 .f32) (r : Fin 16) (n : Fin 4096) :
    scoresA x (fun _ => 0#1) W1 b1 W2 b2 (ix3 r n 0)
      = score (fun d => x (ix3 r n d)) (fun d h => W1 (ix2 d h)) (fun h => b1 (ix1 h)) (fun h z => W2 (ix2 h z))
          (fun z => b2 (ix1 z)) := by
  unfold score layer
  pointwise [scoresA, scored, sigmoid64, hidden]
  rfl

/-- With no tile masked the second scores are the layers' scores. -/
theorem scoresB_apply (x : FVec Ideal S16x4096x1024 .f32) (W1 : FVec Ideal S1024x64 .f32) (b1 : FVec Ideal S64 .f32)
    (W2 : FVec Ideal S64x1 .f32) (b2 : FVec Ideal S1 .f32) (r : Fin 16) (n : Fin 4096) :
    scoresB x (fun _ => 0#1) W1 b1 W2 b2 (ix3 r n 0)
      = score (fun d => x (ix3 r n d)) (fun d h => W1 (ix2 d h)) (fun h => b1 (ix1 h)) (fun h z => W2 (ix2 h z))
          (fun z => b2 (ix1 z)) := by
  unfold score layer
  pointwise [scoresB, scored, sigmoid64, hidden]
  rfl

/-- The comparison of the sort is "greater". -/
theorem gt_bit (a b : EReal) : ((FloatOps.cmpfTotal (F := Ideal) (φ := .f32) .gt a b : BitVec 1) == 1#1) = decide (b < a) := by
  show (BitVec.ofBool (decide (b < a)) == 1#1) = decide (b < a)
  cases decide (b < a) <;> rfl

/-- The sort's permutation of a row is the stable descending one. -/
theorem perm_eq (x : FVec Ideal S16x1x4096 .f32) (r : Fin 16) (k : Fin 4096) :
    sortedFrom (fun a b : Fin 4096 => (FloatOps.cmpfTotal (F := Ideal) (φ := .f32) .gt (x (ix3 r 0 a)) (x (ix3 r 0 b)) : BitVec 1) == 1#1) k
      = pick (fun n => x (ix3 r 0 n)) k := by
  unfold pick before
  simp only [gt_bit]

/-- An index of a row with its last coordinate replaced. -/
theorem along_eq (r : Fin 16) (k : Fin 4096) (n : Fin 4096) :
    Shape.Idx.along (s := S16x1x4096) (ix3 r 0 k) 2 n = (ix3 r 0 n : S16x1x4096.Idx) := by
  funext a
  match a with
  | ⟨0, _⟩ => rfl
  | ⟨1, _⟩ => rfl
  | ⟨2, _⟩ => rfl

/-- The first hundred ranks of a row of 4096. -/
theorem rank_eq (s : Fin 4096 → EReal) (k : Fin 100) (h : k.val < 4096) : rank s k.val = pick s ⟨k.val, h⟩ := by
  unfold rank
  exact congrArg (pick s) (Fin.ext (Nat.mod_eq_of_lt h))

/-- A sorted array read at an index of the cut. -/
theorem sorted_value (x : FVec Ideal S16x1x4096 .f32) (y : IVec S16x1x4096 32) (r : Fin 16) (k : Fin 4096) :
    (Host.sort2 S16x1x4096 2 (fun a b : Ideal .f32 × BitVec 32 => FloatOps.cmpfTotal .gt a.1 b.1) x y).1 (ix3 r 0 k)
        = x (ix3 r 0 (pick (fun n => x (ix3 r 0 n)) k))
      ∧ (Host.sort2 S16x1x4096 2 (fun a b : Ideal .f32 × BitVec 32 => FloatOps.cmpfTotal .gt a.1 b.1) x y).2 (ix3 r 0 k)
        = y (ix3 r 0 (pick (fun n => x (ix3 r 0 n)) k)) := by
  have hp := perm_eq x r k
  unfold Host.sort2
  rw [dif_pos (show 2 < S16x1x4096.rank by decide)]
  constructor
  · refine (congrArg x (along_eq r k _)).trans (congrArg (fun n => x (ix3 r 0 n)) ?_)
    refine Eq.trans ?_ hp
    refine congrArg (fun f => sortedFrom f k) ?_
    funext a b
    exact congrArg₂ (fun a b => (FloatOps.cmpfTotal (F := Ideal) (φ := .f32) .gt (x a) (x b) : BitVec 1) == 1#1) (along_eq r k a) (along_eq r k b)
  · refine (congrArg y (along_eq r k _)).trans (congrArg (fun n => y (ix3 r 0 n)) ?_)
    refine Eq.trans ?_ hp
    refine congrArg (fun f => sortedFrom f k) ?_
    funext a b
    exact congrArg₂ (fun a b => (FloatOps.cmpfTotal (F := Ideal) (φ := .f32) .gt (x a) (x b) : BitVec 1) == 1#1) (along_eq r k a) (along_eq r k b)

/-- The sort's values: entry `k` is the row's entry of rank `k`. -/
theorem top_value (x : FVec Ideal S16x1x4096 .f32) (r : Fin 16) (k : Fin 100) :
    (Host.topK S16x1x100 2 (FloatOps.cmpfTotal .gt) x sliceFits_S16x1x4096_S16x1x100).1 (ix3 r 0 k)
      = x (ix3 r 0 (rank (fun n => x (ix3 r 0 n)) k.val)) := by
  have hk : k.val < 4096 := by omega
  rw [rank_eq _ k hk, ← (sorted_value x (iotaInDim S16x1x4096 32 2) r ⟨k.val, hk⟩).1]
  unfold Host.topK
  pointwise
  rfl

/-- The sort's positions. -/
theorem top_place (x : FVec Ideal S16x1x4096 .f32) (r : Fin 16) (k : Fin 100) :
    (Host.topK S16x1x100 2 (FloatOps.cmpfTotal .gt) x sliceFits_S16x1x4096_S16x1x100).2 (ix3 r 0 k)
      = BitVec.ofNat 32 (rank (fun n => x (ix3 r 0 n)) k.val).val := by
  have hk : k.val < 4096 := by omega
  rw [rank_eq _ k hk]
  refine Eq.trans ?_ (sorted_value x (iotaInDim S16x1x4096 32 2) r ⟨k.val, hk⟩).2
  unfold Host.topK
  pointwise
  rfl

/-- The greatest and the least of a row, no tile masked. -/
theorem greatest_apply (s : FVec Ideal S16x4096x1 .f32) (r : Fin 16) (k : Fin 100) :
    (greatest (fun _ => 0#1) s).1 (ix3 r 0 k) = s (ix3 r (rank (fun n => s (ix3 r n 0)) k.val) 0)
      ∧ (greatest (fun _ => 0#1) s).2 (ix3 r 0 k) = BitVec.ofNat 32 (rank (fun n => s (ix3 r n 0)) k.val).val := by
  have e : ∀ n, (transpose S16x1x4096 [0, 2, 1]
      (select (fun _ => 0#1) (broadcastInDim S16x4096x1 ![] bcast_S_S16x4096x1 (id (constant S_ .f32 0xFF800000#32))) s)
      transposes_S16x4096x1_S16x1x4096_0_2_1) (ix3 r 0 n) = s (ix3 r n 0) := fun n => by pointwise
  unfold greatest
  rw [top_value, top_place]
  simp only [e]
  trivial

/-- The sort of a row's negative, no tile masked: the negatives of the row's least entries, and their positions. -/
theorem least_apply (s : FVec Ideal S16x4096x1 .f32) (r : Fin 16) (k : Fin 100) :
    (least (fun _ => 0#1) s).1 (ix3 r 0 k) = -s (ix3 r (rank (fun n => -s (ix3 r n 0)) k.val) 0)
      ∧ (least (fun _ => 0#1) s).2 (ix3 r 0 k) = BitVec.ofNat 32 (rank (fun n => -s (ix3 r n 0)) k.val).val := by
  have e : ∀ n, Host.negf (transpose S16x1x4096 [0, 2, 1]
      (select (fun _ => 0#1) (broadcastInDim S16x4096x1 ![] bcast_S_S16x4096x1 (id (constant S_ .f32 0x7F800000#32))) s)
      transposes_S16x4096x1_S16x1x4096_0_2_1) (ix3 r 0 n) = -s (ix3 r n 0) := fun n => by pointwise
  unfold least
  rw [top_value, top_place]
  simp only [e]
  trivial

/-- The position of entry `n` of a row's two hundred: the greatest first. -/
def spot (s : Fin 4096 → EReal) (n : Fin 200) : Fin 4096 :=
  if n.val < 100 then rank s n.val else rank (fun m => -s m) (n.val - 100)

/-- A row's two hundred extreme scores are its entries at their positions. -/
theorem chosen_apply (s : FVec Ideal S16x4096x1 .f32) (r : Fin 16) (n : Fin 200) :
    chosen (fun _ => 0#1) s (ix3 r n 0) = s (ix3 r (spot (fun n => s (ix3 r n 0)) n) 0) := by
  unfold spot
  pointwise [chosen]
  split
  · exact (greatest_apply s r _).1
  · refine (congrArg (fun z : EReal => -z) (least_apply s r _).1).trans (neg_neg _)

/-- The words of those positions. -/
theorem places_apply (s : FVec Ideal S16x4096x1 .f32) (r : Fin 16) (n : Fin 200) :
    places (fun _ => 0#1) s (ix3 r n 0) = BitVec.ofNat 32 (spot (fun n => s (ix3 r n 0)) n).val := by
  unfold spot
  pointwise [places]
  split
  · exact (greatest_apply s r _).2
  · exact (least_apply s r _).2

/-- The word of a position of the row is its number, read with a sign. -/
theorem place_toInt (q : Fin 4096) : (BitVec.ofNat 32 q.val).toInt = q.val := by
  have := q.isLt
  rw [BitVec.toInt_eq_toNat_of_lt (by rw [BitVec.toNat_ofNat, Nat.mod_eq_of_lt (by omega)]; omega), BitVec.toNat_ofNat,
    Nat.mod_eq_of_lt (by omega)]

/-- A position of the row stays as it is. -/
theorem wrapped_apply (p : IVec S16x200x1 32) (q : Fin 4096) (y : S16x200x1.Idx) (h : p y = BitVec.ofNat 32 q.val) :
    wrapped p y = BitVec.ofNat 32 q.val := by
  have hi := place_toInt q
  have e : IntOp.cmpi .slt (BitVec.ofNat 32 q.val) 0#32 = 0#1 := by
    unfold IntOp.cmpi
    show BitVec.ofBool (BitVec.slt _ _) = _
    rw [BitVec.slt_eq_decide, hi, decide_eq_false (by simp)]
    rfl
  pointwise [wrapped]
  rw [h, e]
  rfl

/-- A position of the row is in the row. -/
theorem inRow_apply (p : IVec S16x200x1 32) (q : Fin 4096) (r : Fin 16) (n : Fin 200) (h : p (ix3 r n 0) = BitVec.ofNat 32 q.val) :
    inRow p (ix2 r n) = 1#1 := by
  have hi := place_toInt q
  have hq := q.isLt
  have ge : IntOp.cmpi .sge (BitVec.ofNat 32 q.val) 0#32 = 1#1 := by
    show BitVec.ofBool (BitVec.sle _ _) = _
    rw [BitVec.sle_eq_decide, hi, decide_eq_true (by simp)]
    rfl
  have le : IntOp.cmpi .sle (BitVec.ofNat 32 q.val) 4095#32 = 1#1 := by
    show BitVec.ofBool (BitVec.sle _ _) = _
    rw [BitVec.sle_eq_decide, hi, decide_eq_true (by rw [show (4095#32).toInt = 4095 from rfl]; omega)]
    rfl
  pointwise [inRow]
  rw [show (Finset.univ : Finset (Fin 1)) = {0} from rfl, Finset.fold_singleton, h, ge, le]
  rfl

/-- The gather reads the row at the position. -/
theorem gather_apply (s : FVec Ideal S16x4096x1 .f32) (p : IVec S16x200x1 32) (q : Fin 4096) (r : Fin 16) (n : Fin 200)
    (h : p (ix3 r n 0) = BitVec.ofNat 32 q.val) :
    Host.gather gather_S16x4096x1_S16x200x1_S16x200x1_2_1_0_0_1_2_111 s p (ix3 r n 0) = s (ix3 r q 0) := by
  have hi := place_toInt q
  unfold Host.gather
  refine congrArg s ?_
  funext a
  refine Fin.ext ?_
  have h0 : (0 : Fin S16x4096x1.rank) ∈ gather_S16x4096x1_S16x200x1_S16x200x1_2_1_0_0_1_2_111.operandBatchingDims := List.mem_singleton.mpr rfl
  have h1 : (1 : Fin S16x4096x1.rank) ∈ gather_S16x4096x1_S16x200x1_S16x200x1_2_1_0_0_1_2_111.startIndexMap := List.mem_singleton.mpr rfl
  show gather_S16x4096x1_S16x200x1_S16x200x1_2_1_0_0_1_2_111.start (ix3 r n 0) p a + gather_S16x4096x1_S16x200x1_S16x200x1_2_1_0_0_1_2_111.batchCoord (ix3 r n 0) a + gather_S16x4096x1_S16x200x1_S16x200x1_2_1_0_0_1_2_111.offCoord (ix3 r n 0) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ h0, GatherDims.offCoord_eq_zero _ _ _ (fun g => ((GatherDims.mem_sKept _ _).mp g).2 h0)]
    simp only [Nat.zero_add, Nat.add_zero]
    unfold GatherDims.batchCoord
    rw [dif_pos h0]
    rfl
  · rw [GatherDims.batchCoord_eq_zero _ _ _ (fun g => absurd (List.mem_singleton.1 g) (by decide)),
      GatherDims.offCoord_eq_zero _ _ _ (fun g => ((GatherDims.mem_sKept _ _).mp g).1 (List.mem_singleton.mpr rfl))]
    simp only [Nat.add_zero]
    unfold GatherDims.start
    rw [dif_pos h1]
    have hs : gather_S16x4096x1_S16x200x1_S16x200x1_2_1_0_0_1_2_111.siIdx (ix3 r n 0) ⟨List.idxOf (1 : Fin S16x4096x1.rank) gather_S16x4096x1_S16x200x1_S16x200x1_2_1_0_0_1_2_111.startIndexMap, List.idxOf_lt_length_iff.2 h1⟩ = ix3 r n 0 := by
      funext b
      match b with
      | ⟨0, _⟩ => rfl
      | ⟨1, _⟩ => rfl
      | ⟨2, _⟩ => rfl
    refine (congrArg (fun z => min (p z).toInt.toNat 4095) hs).trans ?_
    show min (p (ix3 r n 0)).toInt.toNat 4095 = q.val
    rw [h, hi]
    have := q.isLt
    omega
  · exact congrArg Fin.val (Subsingleton.elim (α := Fin 1) (gather_S16x4096x1_S16x200x1_S16x200x1_2_1_0_0_1_2_111.operandIdx (ix3 r n 0) p 2) 0)

/-- The scores taken at a list of positions of the row are the row's entries there. -/
theorem taken_apply (s : FVec Ideal S16x4096x1 .f32) (p : IVec S16x200x1 32) (q : Fin 4096) (r : Fin 16) (n : Fin 200)
    (h : p (ix3 r n 0) = BitVec.ofNat 32 q.val) : taken s p (ix3 r n 0) = s (ix3 r q 0) := by
  have hw := wrapped_apply p q _ h
  have hg := gather_apply s (wrapped p) q r n hw
  have hi := inRow_apply (wrapped p) q r n hw
  pointwise [taken]
  rw [hi, hg]
  rfl

/-- The four lists put together are the extreme scores of the two rows. -/
theorem joined_apply (s t : FVec Ideal S16x4096x1 .f32) (r : Fin 16) (n : Fin 800) :
    joined (fun _ => 0#1) (fun _ => 0#1) s t (ix3 r n 0) = extremes (fun n => s (ix3 r n 0)) (fun n => t (ix3 r n 0)) n := by
  unfold extremes
  pointwise [joined]
  split
  · exact (chosen_apply s r _).trans (apply_ite (fun q => s (ix3 r q 0)) _ _ _)
  split
  · exact (taken_apply s _ _ r _ (places_apply t r _)).trans (apply_ite (fun q => s (ix3 r q 0)) _ _ _)
  split
  · exact (chosen_apply t r _).trans (apply_ite (fun q => t (ix3 r q 0)) _ _ _)
  · exact (taken_apply t _ _ r _ (places_apply s r _)).trans (apply_ite (fun q => t (ix3 r q 0)) _ _ _)

/-- The three layers on top, at a batch entry, are the prediction from its extreme scores. -/
theorem predicted_apply (e : FVec Ideal S16x800x1 .f32) (W1 : FVec Ideal S800x128 .f32) (b1 : FVec Ideal S128 .f32) (W2 : FVec Ideal S128x64 .f32)
    (b2 : FVec Ideal S64 .f32) (W3 : FVec Ideal S64x1 .f32) (b3 : FVec Ideal S1 .f32) (r : Fin 16) (z : Fin 1) :
    predicted e W1 b1 W2 b2 W3 b3 (ix2 r z)
      = predict (fun n => e (ix3 r n 0)) (fun i j => W1 (ix2 i j)) (fun j => b1 (ix1 j))
          (fun i j => W2 (ix2 i j)) (fun j => b2 (ix1 j)) (fun i j => W3 (ix2 i j)) (fun j => b3 (ix1 j)) := by
  unfold predict layer
  pointwise [predicted]
  rfl

section Results

variable (m : (ℓ : Loc nD τ sig) → Buf (Elt Ideal) ℓ) (c : Dev nD)

/-- The first scores of the arguments. -/
def argA : FVec Ideal S16x4096x1 .f32 :=
  scoresA (m ((c : Thread nD τ).loc main_arg0)) (m ((c : Thread nD τ).loc main_arg1)) (m ((c : Thread nD τ).loc main_arg4))
    (m ((c : Thread nD τ).loc main_arg5)) (m ((c : Thread nD τ).loc main_arg6)) (m ((c : Thread nD τ).loc main_arg7))

/-- The second scores of the arguments. -/
def argB : FVec Ideal S16x4096x1 .f32 :=
  scoresB (m ((c : Thread nD τ).loc main_arg2)) (m ((c : Thread nD τ).loc main_arg3)) (m ((c : Thread nD τ).loc main_arg8))
    (m ((c : Thread nD τ).loc main_arg9)) (m ((c : Thread nD τ).loc main_arg10)) (m ((c : Thread nD τ).loc main_arg11))

/-- The extreme scores of the arguments. -/
def argE : FVec Ideal S16x800x1 .f32 :=
  joined (m ((c : Thread nD τ).loc main_arg1)) (m ((c : Thread nD τ).loc main_arg3)) (argA m c) (argB m c)

/-- The second result is the extreme scores. -/
theorem ext_eq : Value.res_main_v56 m c = argE m c := rfl

/-- The first result is the prediction from them. -/
theorem out_eq : Value.res_main_v82 m c
    = predicted (argE m c) (m ((c : Thread nD τ).loc main_arg12)) (m ((c : Thread nD τ).loc main_arg13))
        (m ((c : Thread nD τ).loc main_arg14)) (m ((c : Thread nD τ).loc main_arg15)) (m ((c : Thread nD τ).loc main_arg16))
        (m ((c : Thread nD τ).loc main_arg17)) := rfl

end Results

end Cert.Proof.Reference

end
-- ==== Proof.Algebraic.lean ====
/-
  The value claim: over the extended reals, from arguments that satisfy the precondition, the idealized kernel and the
  reference end with the same prediction and the same extreme scores.
-/
module

public import proofs.«01_k».proof.Proof.Given
public import proofs.«01_k».proof.Proof.KernelRun
public import proofs.«01_k».proof.Proof.Reference

@[expose] public section

set_option maxRecDepth 16384

noncomputable section

namespace Cert.Proof

open Idealize.ShloMosaic Idealize.ShloMosaic.TcCoe Idealize.SL.Sem
open Idealize.ShloMosaic.Pointwise

section Tie

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments on device `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

variable (hpre : Cert.Pre_KernelIdeal_unmasked_with_finite_heads m) (hagree : Agree m m' c)

include hpre hagree

/-- The reference's first scores are the kernel's. -/
theorem first_agree (r : Fin 16) (n : Fin 4096) : Reference.argA m' c (ix3 r n 0) = Scores.firstScore m c r n := by
  obtain ⟨h0, h1, h2, h3, h4, h5, h6, h7, h8, h9, h10, h11, -⟩ := hagree
  unfold Reference.argA
  rw [h0, h1, h4, h5, h6, h7, (Given.entries m hpre c).1]
  exact Reference.scoresA_apply _ _ _ _ _ r n

/-- The reference's second scores are the kernel's. -/
theorem second_agree (r : Fin 16) (n : Fin 4096) : Reference.argB m' c (ix3 r n 0) = Scores.secondScore m c r n := by
  obtain ⟨h0, h1, h2, h3, h4, h5, h6, h7, h8, h9, h10, h11, -⟩ := hagree
  unfold Reference.argB
  rw [h2, h3, h8, h9, h10, h11, (Given.entries m hpre c).2.1]
  exact Reference.scoresB_apply _ _ _ _ _ r n

/-- The reference's extreme scores are the kernel's. -/
theorem ext_agree (r : Fin 16) (n : Fin 800) : Reference.argE m' c (ix3 r n 0) = Kernel.extremeRow m c r n := by
  have ha := first_agree m m' c hpre hagree
  have hb := second_agree m m' c hpre hagree
  obtain ⟨h0, h1, h2, h3, -⟩ := hagree
  unfold Reference.argE
  rw [h1, h3, (Given.entries m hpre c).1, (Given.entries m hpre c).2.1]
  refine (Reference.joined_apply _ _ r n).trans ?_
  unfold Kernel.extremeRow
  rw [funext (ha r), funext (hb r)]

/-- The second result of the reference. -/
theorem res_ext : Cert.ReferenceIdeal.Value.res_main_v56 m' c
    = fun j : Cert.ReferenceIdeal.S16x800x1.Idx => Kernel.extremeRow m c (j 0) (j 1) := by
  refine (Reference.ext_eq m' c).trans (funext fun j => ?_)
  obtain ⟨r, n, rfl⟩ : ∃ (r : Fin 16) (n : Fin 800), j = ix3 r n 0 :=
    ⟨j 0, j 1, (eq_ix3 j).trans (congrArg (ix3 (j 0) (j 1)) (Subsingleton.elim (α := Fin 1) _ _))⟩
  exact ext_agree m m' c hpre hagree r n

/-- The first result of the reference. -/
theorem res_out : Cert.ReferenceIdeal.Value.res_main_v82 m' c
    = fun j : Cert.ReferenceIdeal.S16x1.Idx => Kernel.prediction m c (j 0) := by
  have he := ext_agree m m' c hpre hagree
  obtain ⟨h0, h1, h2, h3, h4, h5, h6, h7, h8, h9, h10, h11, h12, h13, h14, h15, h16, h17⟩ := hagree
  refine (Reference.out_eq m' c).trans (funext fun j => ?_)
  obtain ⟨r, z, rfl⟩ : ∃ (r : Fin 16) (z : Fin 1), j = ix2 r z := ⟨j 0, j 1, eq_ix2 j⟩
  rw [h12, h13, h14, h15, h16, h17]
  refine (Reference.predicted_apply _ _ _ _ _ _ _ r z).trans ?_
  rw [funext (he r)]
  rfl

end Tie

/-- The idealized kernel and the reference compute the same prediction and the same extreme scores. -/
theorem algebraic : Cert.algebraic_KernelIdeal_ReferenceIdeal_pre_unmasked_with_finite_heads := by
  intro m g m' g' hpre hagree
  refine ⟨fun c => fun j : Cert.KernelIdeal.S16x1.Idx => Kernel.prediction m c (j 0),
    fun c => fun j : Cert.KernelIdeal.S16x800x1.Idx => Kernel.extremeRow m c (j 0) (j 1), ?_, ?_⟩
  · refine θ_run_mono (KernelRun.run m g) fun r h c => ?_
    obtain ⟨h0, h1, hargs⟩ := h c
    have hs := Given.scoresReal m hpre c
    exact ⟨h0.trans (Kernel.final_out m g c hs), h1.trans (Kernel.final_ext m g c hs), hargs⟩
  · refine θ_run_mono (Cert.ReferenceIdeal.Value.run m' g') fun r h c => ?_
    obtain ⟨h0, h1, hargs⟩ := h c
    exact ⟨h0.trans (res_out m m' c hpre (hagree c)), h1.trans (res_ext m m' c hpre (hagree c)), hargs⟩

end Cert.Proof

end
-- ==== Proof.lean ====
module

public import proofs.«01_k».proof.Defs
public import proofs.«01_k».proof.Proof.Frames
public import proofs.«01_k».proof.Proof.Algebraic

@[expose] public section

noncomputable section

namespace Cert.Proof

/-- Everything that this certificate claims. -/
theorem claim : Cert.Claim := ⟨Cert.Kernel.Gen.facts, Cert.KernelIdeal.Gen.facts, Cert.ReferenceIdeal.Gen.facts, preFacts,
  frame_kernel, frame_kernelIdeal, frame_kernelIdeal_pre, frame_reference, frame_reference_pre, trivial, algebraic⟩

end Cert.Proof

end
